-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_samplable [hPre_samplable : Cert.Pre_samplable.Facts] (m : (ℓ : Loc Cert.KernelIdeal.nD Cert.KernelIdeal.τ Cert.KernelIdeal.sig) → Buf (Elt Ideal) ℓ) : Prop :=
  ∀ c : Dev Cert.KernelIdeal.nD,
    (Cert.Pre_samplable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_samplable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_samplable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_samplable [hPre_samplable : Cert.Pre_samplable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_samplable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_samplable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_samplable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_samplable [hKernelIdeal : Cert.KernelIdeal.Facts] [hPre_samplable : Cert.Pre_samplable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_samplable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_samplable [hReferenceIdeal : Cert.ReferenceIdeal.Facts] [hPre_samplable : Cert.Pre_samplable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_samplable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_samplable [hKernelIdeal : Cert.KernelIdeal.Facts] [hReferenceIdeal : Cert.ReferenceIdeal.Facts] [hPre_samplable : Cert.Pre_samplable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_samplable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_samplable : Cert.Pre_samplable.Facts),
    quiescent_Kernel (hKernel := hKernel)
    ∧ quiescent_KernelIdeal (hKernelIdeal := hKernelIdeal)
    ∧ quiescent_KernelIdeal_pre_samplable (hKernelIdeal := hKernelIdeal) (hPre_samplable := hPre_samplable)
    ∧ quiescent_ReferenceIdeal (hReferenceIdeal := hReferenceIdeal)
    ∧ quiescent_ReferenceIdeal_pre_samplable (hReferenceIdeal := hReferenceIdeal) (hPre_samplable := hPre_samplable)
    ∧ preserves_Kernel_KernelIdeal
    ∧ algebraic_KernelIdeal_ReferenceIdeal_pre_samplable (hKernelIdeal := hKernelIdeal) (hReferenceIdeal := hReferenceIdeal) (hPre_samplable := hPre_samplable)
-- ==== Pre_samplable.lean ====
abbrev S128x100000 : Shape := ⟨2, ![128, 100000]⟩
abbrev S128 : Shape := ⟨1, ![128]⟩
abbrev S1x100000 : Shape := ⟨2, ![1, 100000]⟩
abbrev S_ : Shape := ⟨0, ![]⟩

class Facts : Prop where
  bcast_S_S128x100000 : S_.BroadcastsInDim S128x100000 (![] : Fin 0 → Fin S128x100000.rank)
  bcast_S_S1x100000 : S_.BroadcastsInDim S1x100000 (![] : Fin 0 → Fin S1x100000.rank)

variable [Facts]

def fn {F : FTy → Type} [FloatOps F] (main_arg0 : FVec F S128x100000 .f32) (main_arg1 : FVec F S128 .f32) (main_arg2 : FVec F S1x100000 .f32) : IVec S128x100000 1 × IVec S1x100000 1 × IVec S1x100000 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_cst_0 : FVec F S_ .f32 := constant S_ .f32 0x00000000#32
  let main_v2 : FVec F S1x100000 .f32 := broadcastInDim S1x100000 ![] bcast_S_S1x100000 main_cst_0
  let main_v3 : IVec S1x100000 1 := cmpf .oge main_arg2 main_v2
  let main_cst_1 : FVec F S_ .f32 := constant S_ .f32 0x7F800000#32
  let main_v4 : FVec F S1x100000 .f32 := broadcastInDim S1x100000 ![] bcast_S_S1x100000 main_cst_1
  let main_v5 : IVec S1x100000 1 := cmpf .olt main_arg2 main_v4
  (main_v1, main_v3, main_v5)
-- ==== Kernel.lean ====
abbrev S128x100000 : Shape := ⟨2, ![128, 100000]⟩
abbrev S128 : Shape := ⟨1, ![128]⟩
abbrev S1x100000 : Shape := ⟨2, ![1, 100000]⟩
abbrev S100000x128 : Shape := ⟨2, ![100000, 128]⟩
abbrev S1x128 : Shape := ⟨2, ![1, 128]⟩
abbrev S5x250x80 : Shape := ⟨3, ![5, 250, 80]⟩
abbrev S5x80x250 : Shape := ⟨3, ![5, 80, 250]⟩
abbrev S20000x128 : Shape := ⟨2, ![20000, 128]⟩
abbrev S1x80x250 : Shape := ⟨3, ![1, 80, 250]⟩
abbrev S80x128 : Shape := ⟨2, ![80, 128]⟩
abbrev S80x250 : Shape := ⟨2, ![80, 250]⟩
abbrev S80x1 : Shape := ⟨2, ![80, 1]⟩

abbrev nBuf : Space → Nat
  | .hbm => 9
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S1x100000, .f32⟩
  | .hbm, ⟨3, _⟩ => ⟨S100000x128, .f32⟩
  | .hbm, ⟨4, _⟩ => ⟨S1x128, .f32⟩
  | .hbm, ⟨5, _⟩ => ⟨S5x250x80, .f32⟩
  | .hbm, ⟨6, _⟩ => ⟨S5x80x250, .f32⟩
  | .hbm, ⟨7, _⟩ => ⟨S1x128, .i32⟩
  | .hbm, ⟨8, _⟩ => ⟨S128, .i32⟩
  | .local _ .vmem, ⟨0, _⟩ => ⟨S20000x128, .f32⟩
  | .local _ .vmem, ⟨1, _⟩ => ⟨S20000x128, .f32⟩
  | .local _ .vmem, ⟨2, _⟩ => ⟨S1x128, .f32⟩
  | .local _ .vmem, ⟨3, _⟩ => ⟨S1x80x250, .f32⟩
  | .local _ .vmem, ⟨4, _⟩ => ⟨S1x80x250, .f32⟩
  | .local _ .vmem, ⟨5, _⟩ => ⟨S1x128, .i32⟩
  | .local _ .vmem, ⟨6, _⟩ => ⟨S80x128, .f32⟩
  | .local _ .vmem, ⟨7, _⟩ => ⟨S80x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v3023 : BitVec 1 := Scalar.cmpi .eq arg0 c4_i32
  let v3024 : BitVec 32 := Scalar.extui v3023
  let c0_i32_267 : BitVec 32 := 0#32
  let v3025 : BitVec 1 := Scalar.cmpi .ne v3024 c0_i32_267
  v3025

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x80x250 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S128x100000 : Shape := ⟨2, ![128, 100000]⟩
abbrev S128 : Shape := ⟨1, ![128]⟩
abbrev S1x100000 : Shape := ⟨2, ![1, 100000]⟩
abbrev S_ : Shape := ⟨0, ![]⟩
abbrev S128x1 : Shape := ⟨2, ![128, 1]⟩

abbrev nBuf : Space → Nat
  | .hbm => 31
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S1x100000, .f32⟩
  | .hbm, ⟨3, _⟩ => ⟨S_, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S128x100000, .f32⟩
  | .hbm, ⟨9, _⟩ => ⟨S128x100000, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x100000, .f32⟩
  | .hbm, ⟨17, _⟩ => ⟨S128x100000, .f32⟩
  | .hbm, ⟨18, _⟩ => ⟨S128x100000, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S128x100000, .f32⟩
  | .hbm, ⟨23, _⟩ => ⟨S128x100000, .f32⟩
  | .hbm, ⟨24, _⟩ => ⟨S128x100000, .f32⟩
  | .hbm, ⟨25, _⟩ => ⟨S128x100000, .f32⟩
  | .hbm, ⟨26, _⟩ => ⟨S128x100000, .i32⟩
  | .hbm, ⟨27, _⟩ => ⟨S_, .f32⟩
  | .hbm, ⟨28, _⟩ => ⟨S_, .i32⟩
  | .hbm, ⟨29, _⟩ => ⟨S128, .f32⟩
  | .hbm, ⟨30, _⟩ => ⟨S128, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_cst : Ref sig .tc := ⟨.hbm, 27, rfl⟩
abbrev main_call1_c : Ref sig .tc := ⟨.hbm, 28, rfl⟩
abbrev main_call1_v1_0 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.Block.lean ====
/-
  What one block computes. At every grid point the body takes 250 steps over an 80-row scratch: step `q` scores the
  block's rows `80 q … 80 q + 79`, keeps the greater of the score and the best so far, and where it kept the score
  records the base index. The 250 printed steps are read here as one recursion, whatever the float values are.
-/
module

public import proofs.«01_k».proof.Proof.Gen.KernelIdeal.Frame
public import Idealize.ShloMosaic.Lib.Pipeline.Value
public import Idealize.ShloMosaic.Lib.Tactic

@[expose] public section

-- the recursion is 250 steps deep
set_option maxRecDepth 65536

noncomputable section

open Idealize.ShloMosaic Idealize.ShloMosaic.TcCoe Idealize.SL.Sem

namespace Cert.KernelIdeal.Value

open Cert.KernelIdeal Cert.KernelIdeal.Gen

variable {F : FTy → Type} [FloatOps F]

theorem hz2 : (![0, 0] : Fin 2 → ℕ) = fun _ => 0 := funext fun a => by fin_cases a <;> rfl
theorem hz3 : (![0, 0, 0] : Fin 3 → ℕ) = fun _ => 0 := funext fun a => by fin_cases a <;> rfl

/-- Rows `80 q … 80 q + 79` lie in the block of 20000 rows. -/
theorem slab_inb (q : ℕ) (hq : q < 250) (a : Fin S20000x128.rank) :
    (![80 * q, 0] : Fin 2 → ℕ) a + S80x128.size a ≤ S20000x128.size a := by
  match a with
  | ⟨0, _⟩ => show 80 * q + 80 ≤ 20000; omega
  | ⟨1, _⟩ => show 0 + 128 ≤ 128; omega

/-- Column `q` lies in the block of 250 columns. -/
theorem col_slices (q : ℕ) (hq : q < 250) : S80x250.Slices ![0, q] S80x1 := by
  refine ⟨rfl, fun a => ?_⟩
  match a with
  | ⟨0, _⟩ => show 0 + 80 ≤ 80; omega
  | ⟨1, _⟩ => show q + 1 ≤ 250; omega

/-- The rectangle step `q` loads. -/
abbrev slabRect (q : ℕ) (hq : q < 250) : Rect S20000x128 :=
  Rect.unit (s := S20000x128) ![80 * q, 0] S80x128.size (slab_inb q hq)

/-- Rows `80 q … 80 q + 79` of a block. -/
abbrev slab (x0 : Vec F S20000x128 .f32) (q : ℕ) (hq : q < 250) : Vec F S80x128 .f32 := View.ld x0 (slabRect q hq)

/-- Step `q`'s scores: the rows times the inverse temperatures `v8` (one per lane), plus column `q` of `v13` (one per row). -/
def score (v8 : FVec F S1x128 .f32) (v13 : FVec F S80x250 .f32) (q : ℕ) (hq : q < 250) (v : Vec F S80x128 .f32) :
    FVec F S80x128 .f32 :=
  addf (mulf (shapeCast S80x128 v shapeCasts_S80x128_S80x128) (broadcastTo S80x128 v8 broadcasts_S1x128_S80x128))
    (broadcastTo S80x128 (extractStridedSlice S80x1 ![0, q] v13 (col_slices q hq)) broadcasts_S80x1_S80x128)

section Steps

variable (v8 : FVec F S1x128 .f32) (v13 : FVec F S80x250 .f32) (ld : (q : ℕ) → q < 250 → Vec F S80x128 .f32)
variable (base : BitVec 32) (m0 : FVec F S80x128 .f32) (a0 : IVec S80x128 32)

/-- The best scores after `n` steps, from `m0`. -/
def best : (n : ℕ) → n ≤ 250 → FVec F S80x128 .f32
  | 0, _ => m0
  | n + 1, h => select (cmpf .ogt (score v8 v13 n h (ld n h)) (best n (Nat.le_of_succ_le h)))
      (score v8 v13 n h (ld n h)) (best n (Nat.le_of_succ_le h))

/-- The base indices recorded after `n` steps, from `a0`: step `q` records `base + 80 q`. -/
def bases : (n : ℕ) → n ≤ 250 → IVec S80x128 32
  | 0, _ => a0
  | n + 1, h => select (cmpf .ogt (score v8 v13 n h (ld n h)) (best v8 v13 ld m0 n (Nat.le_of_succ_le h)))
      (broadcast S80x128 (Scalar.addi base (BitVec.ofNat 32 (80 * n)))) (bases n (Nat.le_of_succ_le h))

end Steps

/-- The base index of grid point `i`: 20000 times its number. -/
def base (i : grid0.Coords) : BitVec 32 := Scalar.muli (BitVec.ofNat 32 (i 0).val) 20000#32

/-- The best scores one block leaves in the scratch that held `m0`. -/
@[irreducible] def bestOf (x0 : Vec F S20000x128 .f32) (x1 : Vec F S1x128 .f32) (x2 : Vec F S1x80x250 .f32) (m0 : Vec F S80x128 .f32) :
    Vec F S80x128 .f32 :=
  best (k0_pay7 x1) (k0_pay8 x2) (slab x0) m0 250 le_rfl

/-- The base indices one block leaves in the scratch that held `a0`. -/
@[irreducible] def basesOf (i : grid0.Coords) (x0 : Vec F S20000x128 .f32) (x1 : Vec F S1x128 .f32) (x2 : Vec F S1x80x250 .f32)
    (m0 : Vec F S80x128 .f32) (a0 : Vec F S80x128 .i32) : Vec F S80x128 .i32 :=
  bases (k0_pay7 x1) (k0_pay8 x2) (slab x0) (base i) m0 a0 250 le_rfl

/-- The last block's output from the final best scores and base indices: the greatest over the 80 rows, then the least
    index (base plus row) among the rows that reach it. -/
def combine (mx : FVec F S80x128 .f32) (ax : IVec S80x128 32) : IVec S1x128 32 :=
  shapeCast S1x128 (multiReductionI .minsi [0] S128
    (select (cmpf .oeq mx (broadcastTo S80x128 (shapeCast S1x128
        (multiReduction .maximumf [0] S128 mx 0xFF800000#32 reduces_S80x128_S128 (.inl rfl) rfl) shapeCasts_S128_S1x128)
        broadcasts_S1x128_S80x128))
      (addi ax (iota .tc S80x128 32 [0] iota_S80x128_d0_w32)) (broadcast S80x128 1073741824#32))
    2147483647#32 reduces_S80x128_S128 rfl) shapeCasts_S128_S1x128

/-! ## The body's loads and stores

Each of the body's arrays is a whole buffer, so a load of all of it reads what the buffer holds. The three kinds of grid
point differ only in what the scratch holds when the steps begin. -/

section Body

variable (c : Dev nD) (i : grid0.Coords) (arg1 : Memref sig .tc .vmem S20000x128 .f32) (harg1 : arg1.IsWhole)
  (arg2 : Memref sig .tc .vmem S1x128 .f32) (harg2 : arg2.IsWhole) (arg3 : Memref sig .tc .vmem S1x80x250 .f32)
  (harg3 : arg3.IsWhole) (arg4 : Memref sig .tc .vmem S1x128 .i32) (harg4 : arg4.IsWhole)
  (arg5 : Memref sig .tc .vmem S80x128 .f32) (harg5 : arg5.IsWhole) (arg6 : Memref sig .tc .vmem S80x128 .i32)
  (harg6 : arg6.IsWhole) (x0 : Vec F S20000x128 .f32) (x1 : Vec F S1x128 .f32) (x2 : Vec F S1x80x250 .f32)
  (xs0 : Vec F S80x128 .f32) (xs1 : Vec F S80x128 .i32)

/-- The whole scratch, as a rectangle. -/
abbrev wholeRect : Rect S80x128 := Rect.unit (s := S80x128) ![0, 0] S80x128.size inb_S80x128_S80x128_0_0

/-- The body's load of the inverse temperatures' block, of the draws' block, and of a step's rows. -/
abbrev load1 : Vec F S1x128 .f32 :=
  View.readAt (Elt F) arg2.view (Rect.unit (s := S1x128) ![0, 0] S1x128.size inb_S1x128_S1x128_0_0).toLoadRect (harg2.unread x1)
abbrev load2 : Vec F S1x80x250 .f32 :=
  View.readAt (Elt F) arg3.view
    (Rect.unit (s := S1x80x250) ![0, 0, 0] S1x80x250.size inb_S1x80x250_S1x80x250_0_0_0).toLoadRect (harg3.unread x2)
abbrev load0 (q : ℕ) (hq : q < 250) : Vec F S80x128 .f32 :=
  View.readAt (Elt F) arg1.view (slabRect q hq).toLoadRect (harg1.unread x0)

/-- The body's loads of the scratch: carried from the grid point before, -/
abbrev carried0 : Vec F S80x128 .f32 := View.readAt (Elt F) arg5.view wholeRect.toLoadRect (harg5.unread xs0)
abbrev carried1 : Vec F S80x128 .i32 := View.readAt (Elt F) arg6.view wholeRect.toLoadRect (harg6.unread xs1)

/-- or just stored, at the first. -/
abbrev stored0 : Vec F S80x128 .f32 := View.readCov (Val := Elt F) arg5.view [⟨wholeRect, k0_pay5 (F := F)⟩] wholeRect.toLoadRect
abbrev stored1 : Vec F S80x128 .i32 := View.readCov (Val := Elt F) arg6.view [⟨wholeRect, k0_pay6⟩] wholeRect.toLoadRect

theorem carried0_eq : carried0 arg5 harg5 xs0 = xs0 := by
  simp only [View.readAt_eq_ld, harg5.read_unread, View.ld_unit_zero (S := S80x128) hz2]
theorem carried1_eq : carried1 (F := F) arg6 harg6 xs1 = xs1 := by
  simp only [View.readAt_eq_ld, harg6.read_unread, View.ld_unit_zero (S := S80x128) hz2]
theorem stored0_eq : stored0 (F := F) arg5 = k0_pay5 (F := F) := View.readCov_unit_zero (S := S80x128) _ hz2 _ _
theorem stored1_eq : stored1 (F := F) arg6 = k0_pay6 := View.readCov_unit_zero (S := S80x128) _ hz2 _ _

/-- A step's load reads its rows of the block. -/
theorem load0_eq : load0 arg1 harg1 x0 = slab x0 := by
  funext q hq
  simp only [load0, View.readAt_eq_ld, harg1.read_unread]
theorem load1_eq : load1 arg2 harg2 x1 = x1 := by
  simp only [load1, View.readAt_eq_ld, harg2.read_unread, View.ld_unit_zero (S := S1x128) hz2]
theorem load2_eq : load2 arg3 harg3 x2 = x2 := by
  simp only [load2, View.readAt_eq_ld, harg3.read_unread, View.ld_unit_zero (S := S1x80x250) hz3]

/-- What the 250 steps over the body's loads leave, from a scratch that held `m0` and `a0`. -/
abbrev bestLoaded (m0 : Vec F S80x128 .f32) : Vec F S80x128 .f32 :=
  best (k0_pay7 (load1 arg2 harg2 x1)) (k0_pay8 (load2 arg3 harg3 x2)) (load0 arg1 harg1 x0) m0 250 le_rfl
abbrev basesLoaded (m0 : Vec F S80x128 .f32) (a0 : Vec F S80x128 .i32) : Vec F S80x128 .i32 :=
  bases (k0_pay7 (load1 arg2 harg2 x1)) (k0_pay8 (load2 arg3 harg3 x2)) (load0 arg1 harg1 x0) (base i) m0 a0 250 le_rfl

theorem bestLoaded_eq (m0 : Vec F S80x128 .f32) :
    bestLoaded arg1 harg1 arg2 harg2 arg3 harg3 x0 x1 x2 m0 = bestOf x0 x1 x2 m0 := by
  unfold bestOf bestLoaded
  rw [load0_eq, load1_eq, load2_eq]
theorem basesLoaded_eq (m0 : Vec F S80x128 .f32) (a0 : Vec F S80x128 .i32) :
    basesLoaded i arg1 harg1 arg2 harg2 arg3 harg3 x0 x1 x2 m0 a0 = basesOf i x0 x1 x2 m0 a0 := by
  unfold basesOf basesLoaded
  rw [load0_eq, load1_eq, load2_eq]

/-- A buffer whose newest store fills it holds what that store wrote. -/
theorem newest_store {κ : Kind} {sp : Space} {S : Shape} {e : EltTy} {v : View sig κ sp S e} {f : v.ty.Contents (Elt F)}
    {L L' : List (View.Piece (Elt F) S e)} {off : Fin S.rank → ℕ} {inb : ∀ a, off a + S.size a ≤ S.size a} {w : Vec F S e}
    (cover : ∀ y, ∃ p ∈ L, y ∈ p.1.set) (hoff : off = fun _ => 0) (hL : L = ⟨Rect.unit off S.size inb, w⟩ :: L') :
    v.read (Elt F) (v.writes (Elt F) f L) = w := by
  rw [View.read_writes_eq_canon _ _ _ cover, hL, View.canon_cons_unit_zero hoff]

variable {c i arg4 harg4 arg5 harg5 arg6 harg6 x0 x1 x2 xs0 xs1}

/-- So a buffer that received the steps' best scores last holds the block's, whatever the scratch held before; -/
theorem best_stored {κ : Kind} {sp : Space} {v : View sig κ sp S80x128 .f32} {f : v.ty.Contents (Elt F)}
    {L : List (View.Piece (Elt F) S80x128 .f32)} (L' : List (View.Piece (Elt F) S80x128 .f32)) {m m0 : Vec F S80x128 .f32}
    (cover : ∀ y, ∃ p ∈ L, y ∈ p.1.set) (hm : m = m0)
    (hL : L = ⟨wholeRect, shapeCast S80x128 (bestLoaded arg1 harg1 arg2 harg2 arg3 harg3 x0 x1 x2 m)
      shapeCasts_S80x128_S80x128⟩ :: L') :
    v.read (Elt F) (v.writes (Elt F) f L) = bestOf x0 x1 x2 m0 := by
  rw [newest_store cover hz2 hL, shapeCast_self, hm, bestLoaded_eq]

/-- and likewise the base indices. -/
theorem bases_stored {κ : Kind} {sp : Space} {v : View sig κ sp S80x128 .i32} {f : v.ty.Contents (Elt F)}
    {L : List (View.Piece (Elt F) S80x128 .i32)} (L' : List (View.Piece (Elt F) S80x128 .i32)) {m m0 : Vec F S80x128 .f32}
    {a a0 : Vec F S80x128 .i32} (cover : ∀ y, ∃ p ∈ L, y ∈ p.1.set) (hm : m = m0) (ha : a = a0)
    (hL : L = ⟨wholeRect, shapeCast S80x128 (basesLoaded i arg1 harg1 arg2 harg2 arg3 harg3 x0 x1 x2 m a)
      shapeCasts_S80x128_S80x128⟩ :: L') :
    v.read (Elt F) (v.writes (Elt F) f L) = basesOf i x0 x1 x2 m0 a0 := by
  rw [newest_store cover hz2 hL, shapeCast_self, hm, ha, basesLoaded_eq]

/-! ## The three kinds of grid point: the first starts from the stored scratch, the others from the carried one -/

variable {arg1 harg1 arg2 harg2 arg3 harg3}

theorem best_A (hc0 : cond0_0 i) (hc1 : ¬cond0_1 i) :
    sout0_A_0 c i arg1 harg1 arg2 harg2 arg3 harg3 arg4 harg4 arg5 harg5 arg6 harg6 hc0 hc1 x0 x1 x2
      = bestOf x0 x1 x2 (k0_pay5 (F := F)) :=
  best_stored arg1 harg1 arg2 harg2 arg3 harg3 [⟨wholeRect, k0_pay5⟩] (fun _ => scover0_A_0 ..) (stored0_eq arg5) (by sl_kernel_rfl)

theorem bases_A (hc0 : cond0_0 i) (hc1 : ¬cond0_1 i) :
    sout0_A_1 c i arg1 harg1 arg2 harg2 arg3 harg3 arg4 harg4 arg5 harg5 arg6 harg6 hc0 hc1 x0 x1 x2
      = basesOf i x0 x1 x2 (k0_pay5 (F := F)) k0_pay6 :=
  bases_stored arg1 harg1 arg2 harg2 arg3 harg3 [⟨wholeRect, k0_pay6⟩] (fun _ => scover0_A_1 ..) (stored0_eq arg5) (stored1_eq arg6) (by sl_kernel_rfl)

theorem best_B (hc0 : ¬cond0_0 i) (hc1 : ¬cond0_1 i) :
    sout0_B_0 c i arg1 harg1 arg2 harg2 arg3 harg3 arg4 harg4 arg5 harg5 arg6 harg6 hc0 hc1 x0 x1 x2 xs0 xs1
      = bestOf x0 x1 x2 xs0 :=
  best_stored arg1 harg1 arg2 harg2 arg3 harg3 [] (fun _ => scover0_B_0 ..) (carried0_eq arg5 harg5 xs0) (by sl_kernel_rfl)

theorem bases_B (hc0 : ¬cond0_0 i) (hc1 : ¬cond0_1 i) :
    sout0_B_1 c i arg1 harg1 arg2 harg2 arg3 harg3 arg4 harg4 arg5 harg5 arg6 harg6 hc0 hc1 x0 x1 x2 xs0 xs1
      = basesOf i x0 x1 x2 xs0 xs1 :=
  bases_stored arg1 harg1 arg2 harg2 arg3 harg3 [] (fun _ => scover0_B_1 ..) (carried0_eq arg5 harg5 xs0) (carried1_eq arg6 harg6 xs1) (by sl_kernel_rfl)

theorem best_C (hc0 : ¬cond0_0 i) (hc1 : cond0_1 i) :
    sout0_C_0 c i arg1 harg1 arg2 harg2 arg3 harg3 arg4 harg4 arg5 harg5 arg6 harg6 hc0 hc1 x0 x1 x2 xs0 xs1
      = bestOf x0 x1 x2 xs0 :=
  best_stored arg1 harg1 arg2 harg2 arg3 harg3 [] (fun _ => scover0_C_0 ..) (carried0_eq arg5 harg5 xs0) (by sl_kernel_rfl)

theorem bases_C (hc0 : ¬cond0_0 i) (hc1 : cond0_1 i) :
    sout0_C_1 c i arg1 harg1 arg2 harg2 arg3 harg3 arg4 harg4 arg5 harg5 arg6 harg6 hc0 hc1 x0 x1 x2 xs0 xs1
      = basesOf i x0 x1 x2 xs0 xs1 :=
  bases_stored arg1 harg1 arg2 harg2 arg3 harg3 [] (fun _ => scover0_C_1 ..) (carried0_eq arg5 harg5 xs0) (carried1_eq arg6 harg6 xs1) (by sl_kernel_rfl)

/-- The output the body leaves at the last grid point. -/
theorem out_C (hc0 : ¬cond0_0 i) (hc1 : cond0_1 i) :
    out0_C_3 c i arg1 harg1 arg2 harg2 arg3 harg3 arg4 harg4 arg5 harg5 arg6 harg6 hc0 hc1 x0 x1 x2 xs0 xs1
      = combine (bestOf x0 x1 x2 xs0) (basesOf i x0 x1 x2 xs0 xs1) := by
  refine (newest_store (L' := []) (inb := inb_S1x128_S1x128_0_0)
    (w := combine (bestLoaded arg1 harg1 arg2 harg2 arg3 harg3 x0 x1 x2 (carried0 arg5 harg5 xs0))
      (basesLoaded i arg1 harg1 arg2 harg2 arg3 harg3 x0 x1 x2 (carried0 arg5 harg5 xs0) (carried1 arg6 harg6 xs1)))
    (fun _ => cover0_C_3 ..) hz2 (by sl_kernel_rfl)).trans ?_
  rw [carried0_eq, carried1_eq, bestLoaded_eq, basesLoaded_eq]

end Body

end Cert.KernelIdeal.Value
-- ==== Proof.Carried.lean ====
/-
  What the scratch and the result array hold. The scratch carries the best scores and the base indices from one grid point
  to the next; the last point combines them into the one block of the result array, which the reshape after the region
  reads. Stated for any float values.
-/
module

public import proofs.«01_k».proof.Proof.Block

@[expose] public section

set_option maxRecDepth 65536

noncomputable section

open Idealize.ShloMosaic Idealize.ShloMosaic.TcCoe Idealize.SL.Sem

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The best scores in the scratch after grid point `n`. -/
def bestAt (c : Dev nD) : (n : ℕ) → n < cfg0.N → Vec F S80x128 .f32
  | 0, h => bestOf (iblk m c 0 ⟨0, h⟩) (iblk m c 1 ⟨0, h⟩) (iblk m c 2 ⟨0, h⟩) (k0_pay5 (F := F))
  | n + 1, h => bestOf (iblk m c 0 ⟨n + 1, h⟩) (iblk m c 1 ⟨n + 1, h⟩) (iblk m c 2 ⟨n + 1, h⟩) (bestAt c n (Nat.lt_of_succ_lt h))

/-- The base indices in the scratch after grid point `n`. -/
def basesAt (c : Dev nD) : (n : ℕ) → n < cfg0.N → Vec F S80x128 .i32
  | 0, h => basesOf (grid0.coords ⟨0, h⟩) (iblk m c 0 ⟨0, h⟩) (iblk m c 1 ⟨0, h⟩) (iblk m c 2 ⟨0, h⟩) (k0_pay5 (F := F)) k0_pay6
  | n + 1, h => basesOf (grid0.coords ⟨n + 1, h⟩) (iblk m c 0 ⟨n + 1, h⟩) (iblk m c 1 ⟨n + 1, h⟩) (iblk m c 2 ⟨n + 1, h⟩)
      (bestAt m c n (Nat.lt_of_succ_lt h)) (basesAt c n (Nat.lt_of_succ_lt h))

/-- The scratch after grid point `n` holds `bestAt` and `basesAt`. -/
theorem scratch_eq (c : Dev nD) : ∀ (n : ℕ) (h : n < cfg0.N),
    (outsAt0 m c n h).2.1 = bestAt m c n h ∧ (outsAt0 m c n h).2.2 = basesAt m c n h
  | 0, h => by
    rw [outsAt0_A m c ⟨0, h⟩ rfl (by show ¬0 % 5 = 4; decide)]
    dsimp only
    rw [best_A, bases_A]
    exact ⟨rfl, rfl⟩
  | n + 1, h => by
    have hN : cfg0.N = 5 := N_0
    have h0 : ¬(⟨n + 1, h⟩ : Fin cfg0.N).val % 5 = 0 := by dsimp only; omega
    have ih : (outsAt0 m c ((⟨n + 1, h⟩ : Fin cfg0.N).val - 1) (Nat.lt_of_succ_lt h)).2 = (bestAt m c n _, basesAt m c n _) :=
      Prod.ext_iff.mpr (scratch_eq c n (Nat.lt_of_succ_lt h))
    by_cases h1 : (⟨n + 1, h⟩ : Fin cfg0.N).val % 5 = 4
    · rw [outsAt0_C m c ⟨n + 1, h⟩ h0 h1, ih]
      dsimp only
      rw [best_C, bases_C]
      exact ⟨rfl, rfl⟩
    · rw [outsAt0_B m c ⟨n + 1, h⟩ h0 h1, ih]
      dsimp only
      rw [best_B, bases_B]
      exact ⟨rfl, rfl⟩

theorem lt4 : 4 < cfg0.N := by rw [show cfg0.N = 5 from N_0]; decide

/-- The result array of the region: the combination of the scratch after the last grid point. -/
abbrev block (c : Dev nD) : IVec S1x128 32 := combine (bestAt m c 4 lt4) (basesAt m c 4 lt4)

/-- What the last grid point leaves in the output's staging buffer. -/
theorem out_last (c : Dev nD) : (outsAt0 m c t0_4.val t0_4.isLt).1 = block m c := by
  have h : (outsAt0 m c (t0_4.val - 1) (Nat.lt_of_succ_lt lt4)).2 = (bestAt m c 3 _, basesAt m c 3 _) :=
    Prod.ext_iff.mpr (scratch_eq m c 3 (Nat.lt_of_succ_lt lt4))
  rw [outsAt0_C m c t0_4 (by decide) (by decide), h]
  dsimp only
  rw [out_C]
  rfl

/-- The one write-back, after the last grid point, writes the whole result array. -/
theorem flushed_eq (c : Dev nD) (t : Fin cfg0.N) (hf : (cfg0.win 3).flush t = true) :
    (dats m 0 c).flushed 3 t = ((cfg0.win 3).blk t).view.read (Elt F) (block m c) := by
  have hN : cfg0.N = 5 := N_0
  have h4 : t.val = 4 := by have := (flush0_3 t).mp hf; have := t.isLt; omega
  obtain rfl : t = t0_4 := Fin.ext h4
  show (cfg0.win 3).cut (grid0.coords t0_4) ((dats m 0 c).after 3 t0_4) = _
  rw [after0_3, out_last]
  have hz' : (fun a => win0_3.index t0_4 a * main_call0_v4.ty.shape.size a) = fun _ => 0 := funext fun a => by fin_cases a <;> decide
  exact (Memref.read_access_unit_zero (Elt F) main_call0_v4 hz' (fun a => by rw [congrFun hz' a]; simp) (block m c)).symm

/-- So the region's result array ends holding `block`. -/
theorem final_block (c : Dev nD) : (dats m 0 c).arrAt 3 cfg0.N = block m c :=
  (dats m 0 c).arrAt_eq_of_cover 3 (block m c) (flushed_eq m c) fun i =>
    ⟨t0_4, (flush0_3 t0_4).mpr rfl, by
      show i ∈ ((View.whole main_call0_v4).slice (win0_3.rect t0_4)).set
      rw [View.set_slice_whole, Rect.mem_set_unit]
      intro a
      have h0 : (i 0 : Nat) < 1 := (i 0).isLt
      have h1 : (i 1 : Nat) < 128 := (i 1).isLt
      match a with
      | ⟨0, _⟩ => show win0_3.index t0_4 0 * win0_3.size 0 ≤ (i 0 : Nat) ∧ (i 0 : Nat) < win0_3.index t0_4 0 * win0_3.size 0 + win0_3.xsize (grid0.coords t0_4) 0
                  rw [show win0_3.index t0_4 0 * win0_3.size 0 = 0 from by decide +kernel, show win0_3.xsize (grid0.coords t0_4) 0 = 1 from by decide +kernel]; omega
      | ⟨1, _⟩ => show win0_3.index t0_4 1 * win0_3.size 1 ≤ (i 1 : Nat) ∧ (i 1 : Nat) < win0_3.index t0_4 1 * win0_3.size 1 + win0_3.xsize (grid0.coords t0_4) 1
                  rw [show win0_3.index t0_4 1 * win0_3.size 1 = 0 from by decide +kernel, show win0_3.xsize (grid0.coords t0_4) 1 = 128 from by decide +kernel]; omega⟩

/-- The program's result: the region's array reshaped to one row. -/
abbrev result (c : Dev nD) : Buf (Elt F) ((c : Thread nD τ).loc main_v0) := shapeCast S128 (block m c) shapeCasts_S1x128_S128

/-- What the reshape after the region leaves. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  show shapeCast S128 (Pipeline.withArrays spec0 c (V0 m c) (fun w => (dats m 0 c).arrAt w cfg0.N)
    (Proc.devRef .tc (Pipeline.arrRef spec0 3))) _ = _
  rw [Pipeline.withArrays_arr spec0 (by decide)]
  exact congrArg (fun b : IVec S1x128 32 => shapeCast S128 b shapeCasts_S1x128_S128) (final_block m c)

/-- The run, read: the program ends with its result array at `result` and its arguments unchanged. -/
theorem run : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v0 (Pipeline.mem_restRefs_of main_v0 (by decide) (by decide))).trans (tail_eq m c), h.2 c⟩)
    (θ_run_and (run_main m ρ) (unchanged m ρ))

end Cert.KernelIdeal.Value
-- ==== Proof.Families.lean ====
/-
  The two families of scores, as plain functions of a vocabulary index: the kernel's, which adds the negated logarithm of the
  draw to the scaled logit, and the reference's, which divides the probability by the draw.
-/
module

public import Idealize.ShloMosaic.Lib.ValueIdxCore
public import Idealize.ShloMosaic.PureOps.Ideal.Laws

@[expose] public section

noncomputable section

open Idealize.ShloMosaic Idealize.ShloMosaic.ValueIdx

namespace Cert.Sampling

/-- Row `i` of a two-dimensional array as a family over the naturals; what lies past its end is never read. -/
def entries {a b : ℕ} (x : (⟨2, ![a, b]⟩ : Shape).Idx → EReal) (i : Fin a) (v : ℕ) : EReal :=
  if h : v < b then x (ix2 i ⟨v, h⟩) else 0

theorem entries_of_lt {a b : ℕ} (x : (⟨2, ![a, b]⟩ : Shape).Idx → EReal) (i : Fin a) {v : ℕ} (h : v < b) :
    entries x i v = x (ix2 i ⟨v, h⟩) := dif_pos h

/-- The least temperature divided by: the number `1e-10` is written as. -/
def floor : EReal := Ideal.ofBits .f32 0x2EDBE6FF#32

/-- The kernel's score of index `v`: the logit times the inverse temperature, minus the logarithm of the draw. -/
def kernelScore (t : EReal) (l e : ℕ → EReal) (v : ℕ) : EReal :=
  l v * Ideal.div 1 (max floor t) + (0 - Ideal.log (e v))

/-- A logit divided by the temperature. -/
def scaled (t : EReal) (l : ℕ → EReal) (v : ℕ) : EReal := Ideal.div (l v) (max floor t)

/-- The greatest scaled logit. -/
def peak (t : EReal) (l : ℕ → EReal) (N : ℕ) : EReal := (Finset.range N).sup (scaled t l)

/-- The exponential of a scaled logit less the greatest. -/
def weight (t : EReal) (l : ℕ → EReal) (N v : ℕ) : EReal := Ideal.exp (scaled t l v - peak t l N)

/-- The reference's score of index `v`: its probability under the softmax, divided by the draw. -/
def referenceScore (t : EReal) (l e : ℕ → EReal) (N v : ℕ) : EReal :=
  Ideal.div (Ideal.div (weight t l N v) (∑ u ∈ Finset.range N, weight t l N u)) (e v)

end Cert.Sampling
-- ==== Proof.FirstMax.lean ====
/-
  The first greatest index of a finite family of extended reals, free of any program: that it is unique, that it is
  carried along an order-preserving change of the family, that scanning strided rows and then combining them finds it,
  and that a fold keeping the greater value (on ties the smaller index) finds it.
-/
module

public import Idealize.ShloMosaic.PureOps.Ideal.Laws
public import Mathlib.Tactic.Ring

@[expose] public section

namespace Cert.Sampling

/-- `v` is the first index below `N` at which `f` takes its greatest value. -/
def IsFirstMax (f : ℕ → EReal) (N v : ℕ) : Prop :=
  v < N ∧ (∀ u, u < N → f u ≤ f v) ∧ ∀ u, u < v → f u < f v

/-- There is at most one first greatest index. -/
theorem IsFirstMax.unique {f : ℕ → EReal} {N v w : ℕ} (hv : IsFirstMax f N v) (hw : IsFirstMax f N w) : v = w := by
  rcases lt_trichotomy v w with h | h | h
  · exact absurd (hv.2.1 w hw.1) (not_le.mpr (hw.2.2 v h))
  · exact h
  · exact absurd (hw.2.1 v hv.1) (not_le.mpr (hv.2.2 w h))

/-- If `g` is strictly greater wherever `f` is, equal wherever `f` is equal above `⊥`, and constant when `f` is `⊥`
    everywhere, then the first greatest index of `f` is that of `g`. -/
theorem IsFirstMax.congr {f g : ℕ → EReal} {N v : ℕ}
    (hlt : ∀ u w, u < N → w < N → f u < f w → g u < g w)
    (heq : ∀ u w, u < N → w < N → ⊥ < f w → f u = f w → g u = g w)
    (hbot : (∀ u, u < N → f u = ⊥) → ∀ u w, u < N → w < N → g u = g w)
    (h : IsFirstMax f N v) : IsFirstMax g N v := by
  obtain ⟨hv, hmax, hfirst⟩ := h
  refine ⟨hv, fun u hu => ?_, fun u hu => hlt u v (hu.trans hv) hv (hfirst u hu)⟩
  rcases (hmax u hu).lt_or_eq with h | h
  · exact (hlt u v hu hv h).le
  · rcases eq_or_ne (f v) ⊥ with hb | hb
    · exact (hbot (fun w hw => le_bot_iff.mp (hb ▸ hmax w hw)) u v hu hv).le
    · exact (heq u v hu hv (bot_lt_iff_ne_bot.mpr hb) h).le

/-! ## Scanning one row -/

/-- The greatest of the first `n` values, scanned in order from `⊥`. -/
noncomputable def scanMax (f : ℕ → EReal) : ℕ → EReal
  | 0 => ⊥
  | n + 1 => if scanMax f n < f n then f n else scanMax f n

/-- The position at which the scan last found a greater value (`0` if it never did). -/
noncomputable def scanArg (f : ℕ → EReal) : ℕ → ℕ
  | 0 => 0
  | n + 1 => if scanMax f n < f n then n else scanArg f n

theorem scanMax_succ (f : ℕ → EReal) (n : ℕ) :
    scanMax f (n + 1) = if scanMax f n < f n then f n else scanMax f n := rfl

theorem scanArg_succ (f : ℕ → EReal) (n : ℕ) :
    scanArg f (n + 1) = if scanMax f n < f n then n else scanArg f n := rfl

theorem le_scanMax (f : ℕ → EReal) {n k : ℕ} (hk : k < n) : f k ≤ scanMax f n := by
  induction n with
  | zero => exact absurd hk (Nat.not_lt_zero _)
  | succ n ih =>
    rw [scanMax_succ]
    rcases Nat.lt_succ_iff_lt_or_eq.mp hk with h | rfl
    · split_ifs with hc
      · exact (ih h).trans hc.le
      · exact ih h
    · split_ifs with hc
      · exact le_rfl
      · exact not_lt.mp hc

/-- Either the scan found nothing above `⊥`, or its position holds its value and everything before is smaller. -/
theorem scan_spec (f : ℕ → EReal) (n : ℕ) :
    (scanMax f n = ⊥ ∧ scanArg f n = 0)
      ∨ (scanArg f n < n ∧ f (scanArg f n) = scanMax f n ∧ ∀ k, k < scanArg f n → f k < scanMax f n) := by
  induction n with
  | zero => exact .inl ⟨rfl, rfl⟩
  | succ n ih =>
    rw [scanMax_succ, scanArg_succ]
    split_ifs with hc
    · exact .inr ⟨Nat.lt_succ_self n, rfl, fun k hk => (le_scanMax f hk).trans_lt hc⟩
    · exact ih.imp id fun h => ⟨h.1.trans (Nat.lt_succ_self n), h.2⟩

theorem scanArg_lt (f : ℕ → EReal) {n : ℕ} (hn : 0 < n) : scanArg f n < n := by
  rcases scan_spec f n with h | h
  · rw [h.2]; exact hn
  · exact h.1

/-- A scan that ends at `⊥` never moved off position `0`. -/
theorem scanArg_of_bot (f : ℕ → EReal) {n : ℕ} (h : scanMax f n = ⊥) : scanArg f n = 0 := by
  rcases scan_spec f n with h' | ⟨_, _, h3⟩
  · exact h'.2
  · by_contra hne
    exact absurd (h3 0 (Nat.pos_of_ne_zero hne)) (by rw [h]; exact not_lt_bot)

/-! ## Combining the rows -/

/-- The family's row `r` at stride `R`: its entries `r`, `R + r`, `2R + r`, … -/
def row (f : ℕ → EReal) (R r : ℕ) : ℕ → EReal := fun k => f (R * k + r)

/-- `R` rows are scanned over `K` entries each; `M` is the greatest of their values and `w` the least of the indices
    found by the rows that reach `M`. Then `w` is the first greatest index of the whole family. -/
theorem isFirstMax_of_rows (f : ℕ → EReal) {R K w : ℕ} (hR : 0 < R) (hK : 0 < K) {M : EReal}
    (hM : ∀ r, r < R → scanMax (row f R r) K ≤ M)
    (hw : ∃ r, r < R ∧ scanMax (row f R r) K = M ∧ w = R * scanArg (row f R r) K + r)
    (hle : ∀ r, r < R → scanMax (row f R r) K = M → w ≤ R * scanArg (row f R r) K + r) :
    IsFirstMax f (R * K) w := by
  have hrow : ∀ u, row f R (u % R) (u / R) = f u := fun u => congrArg f (Nat.div_add_mod u R)
  have hin : ∀ u, u < R * K → u / R < K := fun u hu => Nat.div_lt_of_lt_mul hu
  have hub : ∀ u, u < R * K → f u ≤ scanMax (row f R (u % R)) K := fun u hu =>
    (hrow u).symm.le.trans (le_scanMax _ (hin u hu))
  have hall : ∀ u, u < R * K → f u ≤ M := fun u hu => (hub u hu).trans (hM _ (Nat.mod_lt _ hR))
  rcases eq_or_ne M ⊥ with rfl | hne
  · have h0 := le_bot_iff.mp (hM 0 hR)
    have hw0 : w = 0 := Nat.le_zero.mp ((hle 0 hR h0).trans (by rw [scanArg_of_bot _ h0]; simp))
    have hb : ∀ u, u < R * K → f u = ⊥ := fun u hu => le_bot_iff.mp (hall u hu)
    have hpos : 0 < R * K := Nat.mul_pos hR hK
    subst hw0
    exact ⟨hpos, fun u hu => by rw [hb u hu]; exact bot_le, fun u hu => absurd hu (Nat.not_lt_zero _)⟩
  · obtain ⟨r, hr, hrM, hwr⟩ := hw
    obtain ⟨hlt, hval, -⟩ := (scan_spec (row f R r) K).resolve_left fun h => hne (hrM.symm.trans h.1)
    have hfw : f w = M := by rw [hwr]; exact hval.trans hrM
    refine ⟨?_, fun u hu => by rw [hfw]; exact hall u hu, fun u hu => ?_⟩
    · rw [hwr]
      calc R * scanArg (row f R r) K + r < R * scanArg (row f R r) K + R := by omega
        _ = R * (scanArg (row f R r) K + 1) := by ring
        _ ≤ R * K := Nat.mul_le_mul_left R hlt
    · have hwK : w < R * K := by
        rw [hwr]
        calc R * scanArg (row f R r) K + r < R * scanArg (row f R r) K + R := by omega
          _ = R * (scanArg (row f R r) K + 1) := by ring
          _ ≤ R * K := Nat.mul_le_mul_left R hlt
      have huK := hu.trans hwK
      rw [hfw]
      refine lt_of_le_of_ne (hall u huK) fun heq => ?_
      have hs : scanMax (row f R (u % R)) K = M :=
        le_antisymm (hM _ (Nat.mod_lt _ hR)) (heq ▸ hub u huK)
      obtain ⟨-, -, hbefore⟩ := (scan_spec (row f R (u % R)) K).resolve_left fun h => hne (hs.symm.trans h.1)
      have hge : scanArg (row f R (u % R)) K ≤ u / R := by
        by_contra hc
        have := hbefore (u / R) (not_le.mp hc)
        rw [hrow, heq, hs] at this
        exact lt_irrefl _ this
      have h1 := hle _ (Nat.mod_lt u hR) hs
      have h2 : R * scanArg (row f R (u % R)) K ≤ R * (u / R) := Nat.mul_le_mul_left R hge
      have h3 := Nat.div_add_mod u R
      omega

/-! ## Folding pairs -/

/-- One step of an arg-max fold: keep the greater value; the kept index is the greater value's, or the smaller index
    when the values are equal. -/
noncomputable def pick (a b : EReal × ℕ) : EReal × ℕ :=
  (if b.1 < a.1 then a.1 else b.1, if b.1 < a.1 ∨ (a.1 = b.1 ∧ a.2 < b.2) then a.2 else b.2)

/-- What the fold's pair says of the indices seen so far (`S`): its value bounds theirs, its index is the least that
    reaches it, and it was seen — or the pair is still the initial one, `(⊥, 0)`. -/
def Seen (g : ℕ → EReal) (S : ℕ → Prop) (a : EReal × ℕ) : Prop :=
  (∀ u, S u → g u ≤ a.1 ∧ (g u = a.1 → a.2 ≤ u)) ∧ ((S a.2 ∧ g a.2 = a.1) ∨ (a.1 = ⊥ ∧ a.2 = 0))

theorem Seen.pick {g : ℕ → EReal} {S : ℕ → Prop} {a : EReal × ℕ} (h : Seen g S a) (u : ℕ) :
    Seen g (fun w => S w ∨ w = u) (pick a (g u, u)) := by
  obtain ⟨hb, hs⟩ := h
  unfold Sampling.pick
  rcases lt_trichotomy (g u) a.1 with hlt | heq | hgt
  · rw [if_pos hlt, if_pos (Or.inl hlt)]
    refine ⟨fun w hw => ?_, hs.imp (fun h => ⟨.inl h.1, h.2⟩) id⟩
    rcases hw with hw | rfl
    · exact hb w hw
    · exact ⟨hlt.le, fun h => absurd h hlt.ne⟩
  · have hnl : ¬ g u < a.1 := by rw [heq]; exact lt_irrefl _
    rw [if_neg hnl]
    by_cases hi : a.2 < u
    · rw [if_pos (Or.inr ⟨heq.symm, hi⟩)]
      refine ⟨fun w hw => ?_, ?_⟩
      · rcases hw with hw | rfl
        · rw [heq]; exact hb w hw
        · exact ⟨le_rfl, fun _ => hi.le⟩
      · rw [heq]; exact hs.imp (fun h => ⟨.inl h.1, h.2⟩) id
    · rw [if_neg (by rintro (h | h); exacts [hnl h, hi h.2])]
      refine ⟨fun w hw => ?_, .inl ⟨.inr rfl, rfl⟩⟩
      rcases hw with hw | rfl
      · exact ⟨heq ▸ (hb w hw).1, fun h => (not_lt.mp hi).trans ((hb w hw).2 (h.trans heq))⟩
      · exact ⟨le_rfl, fun _ => le_rfl⟩
  · rw [if_neg hgt.not_gt, if_neg (by rintro (h | h); exacts [hgt.not_gt h, hgt.ne h.1])]
    refine ⟨fun w hw => ?_, .inl ⟨.inr rfl, rfl⟩⟩
    rcases hw with hw | rfl
    · exact ⟨(hb w hw).1.trans hgt.le, fun h => absurd ((le_of_eq h.symm).trans (hb w hw).1) (not_le.mpr hgt)⟩
    · exact ⟨le_rfl, fun _ => le_rfl⟩

theorem Seen.foldl {g : ℕ → EReal} (l : List ℕ) : ∀ {S : ℕ → Prop} {a : EReal × ℕ}, Seen g S a →
    Seen g (fun w => S w ∨ w ∈ l) (l.foldl (fun b u => Sampling.pick b (g u, u)) a) := by
  induction l with
  | nil => intro S a h; simpa using h
  | cons u l ih =>
    intro S a h
    have := ih (h.pick u)
    simpa only [List.foldl_cons, List.mem_cons, or_assoc] using this

/-- Folding the pairs of any list holding exactly the indices below `N`, in any order, from `(⊥, 0)` finds the first
    greatest index. -/
theorem isFirstMax_foldl (g : ℕ → EReal) {N : ℕ} (hN : 0 < N) (l : List ℕ) (hl : ∀ u, u ∈ l ↔ u < N) :
    IsFirstMax g N (l.foldl (fun b u => pick b (g u, u)) (⊥, 0)).2 := by
  have h0 : Seen g (fun _ => False) (⊥, 0) := ⟨fun _ h => h.elim, .inr ⟨rfl, rfl⟩⟩
  have h := h0.foldl l
  simp only [false_or, hl] at h
  generalize l.foldl (fun b u => pick b (g u, u)) (⊥, 0) = a at h ⊢
  obtain ⟨hb, ⟨ha, hv⟩ | ⟨ha, hz⟩⟩ := h
  · refine ⟨ha, fun u hu => hv ▸ (hb u hu).1, fun u hu => ?_⟩
    rw [hv]
    exact lt_of_le_of_ne (hb u (hu.trans ha)).1 fun heq => absurd ((hb u (hu.trans ha)).2 heq) (not_le.mpr hu)
  · rw [hz]
    refine ⟨hN, fun u hu => ((hb u hu).1.trans (ha ▸ bot_le)), fun u hu => absurd hu (Nat.not_lt_zero _)⟩

end Cert.Sampling
-- ==== Proof.Scores.lean ====
/-
  The kernel's scores, element by element, over extended reals: what step `q` of grid point `t` adds at row `r` and lane `ℓ`
  is the kernel's score of vocabulary index `80 (250 t + q) + r`.
-/
module

public import proofs.«01_k».proof.Proof.Carried
public import proofs.«01_k».proof.Proof.Families
public import proofs.«01_k».proof.Proof.FirstMax
public import Idealize.ShloMosaic.Lib.IdealHost

@[expose] public section

noncomputable section

open Idealize.ShloMosaic Idealize.ShloMosaic.TcCoe Idealize.ShloMosaic.ValueIdx Idealize.SL.Sem

namespace Cert.KernelIdeal.Value

open Cert.KernelIdeal Cert.KernelIdeal.Gen Cert.Sampling

variable (m : (ℓ : Loc nD τ sig) → Buf (Elt Ideal) ℓ)

/-! ## The arrays the region reads -/

section Arrays

variable {F : FTy → Type} [FloatOps F] (m : (ℓ : Loc nD τ sig) → Buf (Elt F) ℓ)

/-- The logits as the region reads them: transposed. -/
theorem logits_eq (c : Dev nD) : V m c main_call0_v0
    = transpose S100000x128 [1, 0] (m ((c : Thread nD τ).loc main_arg0)) transposes_S128x100000_S100000x128_1_0 := by
  show StableHlo.after hostOps0 _ (Proc.devRef .tc main_call0_v0) = _
  after_results
  rfl

/-- The temperatures as the region reads them: one row. -/
theorem temperatures_eq (c : Dev nD) : V m c main_call0_v1
    = shapeCast S1x128 (m ((c : Thread nD τ).loc main_arg1)) shapeCasts_S128_S1x128 := by
  show StableHlo.after hostOps0 _ (Proc.devRef .tc main_call0_v1) = _
  after_results
  rfl

/-- The draws as the region reads them: cut in blocks of 250 by 80, the two swapped. -/
theorem draws_eq (c : Dev nD) : V m c main_call0_v3
    = transpose S5x80x250 [0, 2, 1] (shapeCast S5x250x80 (m ((c : Thread nD τ).loc main_arg2)) shapeCasts_S1x100000_S5x250x80)
      transposes_S5x250x80_S5x80x250_0_2_1 := by
  show StableHlo.after hostOps0 _ (Proc.devRef .tc main_call0_v3) = _
  after_results
  rfl

theorem index_0 (t : Fin cfg0.N) : win0_0.index t 0 = t.val ∧ win0_0.index t 1 = 0 := by
  rcases fin_N0 t with rfl | rfl | rfl | rfl | rfl <;> decide
theorem index_1 (t : Fin cfg0.N) : win0_1.index t 0 = 0 ∧ win0_1.index t 1 = 0 := by
  rcases fin_N0 t with rfl | rfl | rfl | rfl | rfl <;> decide
theorem index_2 (t : Fin cfg0.N) : win0_2.index t 0 = t.val ∧ win0_2.index t 1 = 0 ∧ win0_2.index t 2 = 0 := by
  rcases fin_N0 t with rfl | rfl | rfl | rfl | rfl <;> decide

theorem lt_N (t : Fin cfg0.N) : t.val < 5 := Nat.lt_of_lt_of_eq t.isLt N_0

/-- Block `t` of the logits: its row `a` is vocabulary index `20000 t + a`. -/
theorem block_logits (c : Dev nD) (t : Fin cfg0.N) (a : Fin 20000) (ℓ : Fin 128) :
    (iblk m c 0 t : Vec F S20000x128 .f32) (ix2 a ℓ)
      = m ((c : Thread nD τ).loc main_arg0) (ix2 ℓ ⟨20000 * t.val + a.val, by have := lt_N t; have := a.isLt; omega⟩) := by
  have ha := a.isLt
  have ht := lt_N t
  unfold iblk
  rw [View.read_apply]
  show V m c main_call0_v0 _ = _
  rw [logits_eq]
  refine transpose_apply _ _ _ _ _ fun b => ?_
  match b with
  | ⟨0, _⟩ => show 20000 * t.val + a.val = win0_0.index t 0 * 20000 + 1 * a.val; rw [(index_0 t).1]; omega
  | ⟨1, _⟩ => show ℓ.val = win0_0.index t 1 * 128 + 1 * ℓ.val; rw [(index_0 t).2]; omega

/-- The temperatures' one block. -/
theorem block_temperatures (c : Dev nD) (t : Fin cfg0.N) (ℓ : Fin 128) :
    (iblk m c 1 t : Vec F S1x128 .f32) (ix2 0 ℓ) = m ((c : Thread nD τ).loc main_arg1) (ix1 ℓ) := by
  unfold iblk
  rw [View.read_apply]
  show V m c main_call0_v1 _ = _
  rw [temperatures_eq]
  refine shapeCast_apply _ _ _ _ ?_
  show (S128.rowMajor (ix1 ℓ)).val = (S1x128.rowMajor _).val
  rw [Shape.rowMajor_val_one, Shape.rowMajor_val_two]
  show ℓ.val = (win0_1.index t 0 * 1 + 1 * 0) * 128 + (win0_1.index t 1 * 128 + 1 * ℓ.val)
  rw [(index_1 t).1, (index_1 t).2]; omega

/-- Block `t` of the draws: its row `r` and column `q` is vocabulary index `80 (250 t + q) + r`. -/
theorem block_draws (c : Dev nD) (t : Fin cfg0.N) (r : Fin 80) (q : Fin 250) :
    (iblk m c 2 t : Vec F S1x80x250 .f32) (ix3 0 r q)
      = m ((c : Thread nD τ).loc main_arg2)
          (ix2 0 ⟨80 * (250 * t.val + q.val) + r.val, by have := lt_N t; have := r.isLt; have := q.isLt; omega⟩) := by
  have ht := lt_N t
  have hr := r.isLt
  have hq := q.isLt
  unfold iblk
  rw [View.read_apply]
  show V m c main_call0_v3 _ = _
  rw [draws_eq]
  refine (transpose_apply _ _ _ _ (ix3 ⟨t.val, ht⟩ q r) fun b => ?_).trans (shapeCast_apply _ _ _ _ ?_)
  · match b with
    | ⟨0, _⟩ => show t.val = win0_2.index t 0 * 1 + 1 * 0; rw [(index_2 t).1]; omega
    | ⟨1, _⟩ => show r.val = win0_2.index t 1 * 80 + 1 * r.val; rw [(index_2 t).2.1]; omega
    | ⟨2, _⟩ => show q.val = win0_2.index t 2 * 250 + 1 * q.val; rw [(index_2 t).2.2]; omega
  · show (S1x100000.rowMajor _).val = (S5x250x80.rowMajor _).val
    rw [Shape.rowMajor_val_three, Shape.rowMajor_val_two]
    show 0 * 100000 + (80 * (250 * t.val + q.val) + r.val) = (t.val * 250 + q.val) * 80 + r.val
    omega

/-- Row `r` of step `q`'s rows is row `80 q + r` of the block. -/
theorem slab_apply (x0 : Vec F S20000x128 .f32) (q : ℕ) (hq : q < 250) (r : Fin 80) (ℓ : Fin 128) :
    slab x0 q hq (ix2 r ℓ) = x0 (ix2 ⟨80 * q + r.val, by have := r.isLt; omega⟩ ℓ) := by
  show x0 _ = _
  congr 1
  funext a
  apply Fin.ext
  match a with
  | ⟨0, _⟩ => show 80 * q + 1 * r.val = 80 * q + r.val; omega
  | ⟨1, _⟩ => show 0 + 1 * ℓ.val = ℓ.val; omega

end Arrays

/-! ## The scores -/

/-- A step's score: the row's entry times the lane's inverse temperature, plus the row's entry of column `q`. -/
theorem score_apply (v8 : FVec Ideal S1x128 .f32) (v13 : FVec Ideal S80x250 .f32) (q : ℕ) (hq : q < 250)
    (v : Vec Ideal S80x128 .f32) (r : Fin 80) (ℓ : Fin 128) :
    score v8 v13 q hq v (ix2 r ℓ) = v (ix2 r ℓ) * v8 (ix2 0 ℓ) + v13 (ix2 r ⟨q, hq⟩) := by
  unfold score
  rw [shapeCast_self, addf_apply, mulf_apply]
  rw [broadcastTo_apply v8 _ (ix2 r ℓ) (ix2 0 ℓ) (fun a => by match a with | ⟨0, _⟩ => rfl | ⟨1, _⟩ => rfl),
    broadcastTo_apply _ _ (ix2 r ℓ) (ix2 r (0 : Fin 1)) (fun a => by match a with | ⟨0, _⟩ => rfl | ⟨1, _⟩ => rfl),
    extractStridedSlice_apply _ _ _ (ix2 r (0 : Fin 1)) (ix2 r ⟨q, hq⟩) (fun a => by
      match a with
      | ⟨0, _⟩ => show r.val = 0 + r.val; omega
      | ⟨1, _⟩ => show q = q + 0; omega)]

/-- The inverse temperature of a lane. -/
theorem inverse_apply (x1 : Vec Ideal S1x128 .f32) (ℓ : Fin 128) :
    k0_pay7 x1 (ix2 0 ℓ) = Ideal.div 1 (max floor (x1 (ix2 0 ℓ))) := by
  unfold k0_pay7
  rw [shapeCast_self, divf_apply, maximumf_apply]
  show Ideal.div (Ideal.ofBits .f32 0x3F800000#32) _ = _
  rw [Ideal.ofBits_one_f32]
  rfl

/-- The negated logarithm of a draw. -/
theorem neglog_apply (x2 : Vec Ideal S1x80x250 .f32) (r : Fin 80) (q : Fin 250) :
    k0_pay8 x2 (ix2 r q) = 0 - Ideal.log (x2 (ix3 0 r q)) := by
  unfold k0_pay8
  rw [subf_apply]
  show Ideal.ofBits .f32 0x00000000#32 - Ideal.log (shapeCast S80x250 x2 _ (ix2 r q)) = _
  rw [Ideal.ofBits_zero_f32, shapeCast_apply x2 _ (ix2 r q) (ix3 0 r q) (by
    rw [Shape.rowMajor_val_three, Shape.rowMajor_val_two]
    show (0 * 80 + r.val) * 250 + q.val = r.val * 250 + q.val
    omega)]

/-- The kernel's scores of lane `ℓ`, by vocabulary index. -/
abbrev scores (c : Dev nD) (ℓ : Fin 128) : ℕ → EReal :=
  kernelScore (m ((c : Thread nD τ).loc main_arg1) (ix1 ℓ)) (entries (m ((c : Thread nD τ).loc main_arg0)) ℓ)
    (entries (m ((c : Thread nD τ).loc main_arg2)) 0)

/-- The score of step `q` of grid point `t`, at row `r` and lane `ℓ`. -/
theorem step_score (c : Dev nD) (t : Fin cfg0.N) (q : ℕ) (hq : q < 250) (r : Fin 80) (ℓ : Fin 128) :
    score (k0_pay7 (iblk m c 1 t)) (k0_pay8 (iblk m c 2 t)) q hq (slab (iblk m c 0 t) q hq) (ix2 r ℓ)
      = row (scores m c ℓ) 80 r.val (250 * t.val + q) := by
  have ht := lt_N t
  have hr := r.isLt
  have hv : 80 * (250 * t.val + q) + r.val < 100000 := by omega
  rw [score_apply, slab_apply, inverse_apply, neglog_apply, block_temperatures, block_draws, block_logits]
  unfold row scores kernelScore
  rw [entries_of_lt _ _ hv, entries_of_lt _ _ hv]
  have e : 20000 * t.val + (80 * q + r.val) = 80 * (250 * t.val + q) + r.val := by omega
  simp only [e]

end Cert.KernelIdeal.Value
-- ==== Proof.Lanes.lean ====
/-
  What the kernel's result holds. Row `r` of the scratch scans the scores of the vocabulary indices `80 k + r` in order of `k`,
  250 of them at each grid point, so after the last grid point it holds their greatest and the base index `80 k` of the first
  that reaches it. The last combination takes, of the rows that reach the greatest of all, the least index: the first greatest
  index of the lane's scores.
-/
module

public import proofs.«01_k».proof.Proof.Scores
public import Idealize.ShloMosaic.Lib.SortNet.Extract

@[expose] public section

noncomputable section

open Idealize.ShloMosaic Idealize.ShloMosaic.TcCoe Idealize.ShloMosaic.ValueIdx Idealize.SL.Sem

namespace Cert.KernelIdeal.Value

open Cert.KernelIdeal Cert.KernelIdeal.Gen Cert.Sampling

/-! ## One block's steps are steps of the scan -/

/-- A selection by a decided bit. -/
theorem select_decide {α : Type} (p : Prop) [Decidable p] (a b : α) :
    Scalar.select (BitVec.ofBool (decide p)) a b = if p then a else b := by
  by_cases h : p <;> simp [Scalar.select, h]

section Steps

variable (v8 : FVec Ideal S1x128 .f32) (v13 : FVec Ideal S80x250 .f32) (ld : (q : ℕ) → q < 250 → Vec Ideal S80x128 .f32)
variable (b0 : BitVec 32) (m0 : FVec Ideal S80x128 .f32) (a0 : IVec S80x128 32) (j : S80x128.Idx) (f : ℕ → EReal) (N0 : ℕ)

/-- Where the scratch starts at the scan's value after `N0` entries and step `q` scores entry `N0 + q`, it holds after `n`
    steps the scan's value after `N0 + n` entries. -/
theorem best_scan (hm : m0 j = scanMax f N0) (hs : ∀ q hq, score v8 v13 q hq (ld q hq) j = f (N0 + q)) :
    ∀ (n : ℕ) (h : n ≤ 250), best v8 v13 ld m0 n h j = scanMax f (N0 + n)
  | 0, _ => hm
  | n + 1, h => by
    show Scalar.select (FloatOps.cmpf .ogt (score v8 v13 n h (ld n h) j) (best v8 v13 ld m0 n (Nat.le_of_succ_le h) j))
      (score v8 v13 n h (ld n h) j) (best v8 v13 ld m0 n (Nat.le_of_succ_le h) j) = _
    rw [hs, best_scan hm hs n (Nat.le_of_succ_le h)]
    exact select_decide _ _ _

/-- Likewise the recorded base indices are 80 times the scan's position. -/
theorem bases_scan (hm : m0 j = scanMax f N0) (hs : ∀ q hq, score v8 v13 q hq (ld q hq) j = f (N0 + q))
    (ha : a0 j = BitVec.ofNat 32 (80 * scanArg f N0))
    (hb : ∀ q, q < 250 → Scalar.addi b0 (BitVec.ofNat 32 (80 * q)) = BitVec.ofNat 32 (80 * (N0 + q))) :
    ∀ (n : ℕ) (h : n ≤ 250), bases v8 v13 ld b0 m0 a0 n h j = BitVec.ofNat 32 (80 * scanArg f (N0 + n))
  | 0, _ => ha
  | n + 1, h => by
    show Scalar.select (FloatOps.cmpf .ogt (score v8 v13 n h (ld n h) j) (best v8 v13 ld m0 n (Nat.le_of_succ_le h) j))
      (Scalar.addi b0 (BitVec.ofNat 32 (80 * n))) (bases v8 v13 ld b0 m0 a0 n (Nat.le_of_succ_le h) j) = _
    rw [hs, best_scan v8 v13 ld m0 j f N0 hm hs n (Nat.le_of_succ_le h), bases_scan hm hs ha hb n (Nat.le_of_succ_le h), hb n h]
    refine (select_decide _ _ _).trans ?_
    show _ = BitVec.ofNat 32 (80 * scanArg f (N0 + n + 1))
    rw [scanArg_succ]
    split_ifs <;> rfl

end Steps

/-- The base index of a grid point's step, as a number. -/
theorem base_step (t : Fin cfg0.N) (q : ℕ) (hq : q < 250) :
    Scalar.addi (base (grid0.coords t)) (BitVec.ofNat 32 (80 * q)) = BitVec.ofNat 32 (80 * (250 * t.val + q)) := by
  have ht := lt_N t
  have e0 : (grid0.coords t 0).val = t.val :=
    (Pipeline.Grid.coords_val t 0 (by decide) rfl : (grid0.coords t 0).val = t.val / 1 % 5).trans (by omega)
  unfold base
  rw [e0]
  generalize t.val = k
  show BitVec.ofNat 32 k * BitVec.ofNat 32 20000 + BitVec.ofNat 32 (80 * q) = _
  rw [← BitVec.ofNat_mul, ← BitVec.ofNat_add]
  congr 1
  omega

variable (m : (ℓ : Loc nD τ sig) → Buf (Elt Ideal) ℓ)

theorem initial_best (j : S80x128.Idx) : (k0_pay5 (F := Ideal)) j = ⊥ := by
  unfold k0_pay5
  rw [shapeCast_self]
  show Ideal.ofBits .f32 0xFF800000#32 = ⊥
  simp [Ideal.ofBits, Ideal.ieee]

theorem initial_bases (j : S80x128.Idx) : k0_pay6 j = 0#32 := by
  unfold k0_pay6
  rw [shapeCast_self]
  rfl

/-- After grid point `n`, row `r` and lane `ℓ` of the scratch hold the scan of 250 (n + 1) entries. -/
theorem scratch_scan (c : Dev nD) (r : Fin 80) (ℓ : Fin 128) : ∀ (n : ℕ) (h : n < cfg0.N),
    bestAt m c n h (ix2 r ℓ) = scanMax (row (scores m c ℓ) 80 r.val) (250 * n + 250)
      ∧ basesAt m c n h (ix2 r ℓ) = BitVec.ofNat 32 (80 * scanArg (row (scores m c ℓ) 80 r.val) (250 * n + 250))
  | 0, h => by
    have hs := fun q hq => step_score m c ⟨0, h⟩ q hq r ℓ
    have hb := fun q hq => base_step ⟨0, h⟩ q hq
    unfold bestAt basesAt bestOf basesOf
    exact ⟨best_scan _ _ _ _ _ _ 0 (initial_best _) hs 250 le_rfl,
      bases_scan _ _ _ _ _ _ _ _ 0 (initial_best _) hs (initial_bases _) hb 250 le_rfl⟩
  | n + 1, h => by
    obtain ⟨e1, e2⟩ := scratch_scan c r ℓ n (Nat.lt_of_succ_lt h)
    have hs := fun q hq => step_score m c ⟨n + 1, h⟩ q hq r ℓ
    have hb := fun q hq => base_step ⟨n + 1, h⟩ q hq
    unfold bestAt basesAt bestOf basesOf
    exact ⟨best_scan _ _ _ _ _ _ (250 * (n + 1)) e1 hs 250 le_rfl,
      bases_scan _ _ _ _ _ _ _ _ (250 * (n + 1)) e1 hs e2 hb 250 le_rfl⟩

/-! ## The last combination -/

/-- A fold of signed minima from a word at least every other is the least of the words. -/
theorem fold_minsi_eq {ι : Type} [Fintype ι] (g : ι → BitVec 32) (acc w : BitVec 32) (hacc : w.toInt ≤ acc.toInt)
    (hmem : ∃ k, g k = w) (hle : ∀ k, w.toInt ≤ (g k).toInt) :
    (Finset.univ : Finset ι).fold IntOp.minsi acc g = w := by
  apply BitVec.eq_of_toInt_eq
  rw [← Finset.fold_hom (op := IntOp.minsi) (op' := min) (m := BitVec.toInt) (fun a b => SortNet.toInt_minsi a b)]
  obtain ⟨k, hk⟩ := hmem
  exact le_antisymm ((Finset.fold_min_le _).mpr (.inr ⟨k, Finset.mem_univ k, by rw [hk]⟩))
    ((Finset.le_fold_min _).mpr ⟨hacc, fun k _ => hle k⟩)

theorem lift_row (ℓ : Fin 128) (r : Fin 80) : reduces_S80x128_S128.lift (ix1 ℓ) r = ix2 r ℓ := by
  funext a
  apply Fin.ext
  match a with
  | ⟨0, _⟩ => rfl
  | ⟨1, _⟩ => rfl

/-- A lane's maximum over the rows, where one row reaches the bound of all. -/
theorem maximum_apply (mx : FVec Ideal S80x128 .f32) (hφ : FKind.Formats .f32)
    (hacc : (0xFF800000#32 : BitVec 32) = FKind.maximumf.neutral .f32 hφ) (ℓ : Fin 128) (M : EReal) (r0 : Fin 80)
    (hle : ∀ r : Fin 80, mx (ix2 r ℓ) ≤ M) (h0 : mx (ix2 r0 ℓ) = M) :
    multiReduction .maximumf [0] S128 mx 0xFF800000#32 reduces_S80x128_S128 hφ hacc (ix1 ℓ) = M := by
  refine (Ideal.multiReduction_maximumf_single mx _ reduces_S80x128_S128 hφ hacc (ix1 ℓ)).trans ?_
  have e : mx ∘ reduces_S80x128_S128.lift (ix1 ℓ) = fun r : Fin 80 => mx (ix2 r ℓ) :=
    funext fun r => congrArg mx (lift_row ℓ r)
  have hb : FloatOps.ofBits (F := Ideal) .f32 0xFF800000#32 = (⊥ : EReal) := by simp [Ideal.ofBits, Ideal.ieee]
  rw [e, hb]
  exact le_antisymm ((Finset.fold_max_le _).mpr ⟨bot_le, fun r _ => hle r⟩)
    ((Finset.le_fold_max _).mpr (.inr ⟨r0, Finset.mem_univ _, h0.ge⟩))

/-- A lane's signed minimum over the rows, as a fold. -/
theorem minimum_apply (src : IVec S80x128 32) (acc : BitVec 32) (hacc : acc = IKind.minsi.neutral) (ℓ : Fin 128) :
    multiReductionI .minsi [0] S128 src acc reduces_S80x128_S128 hacc (ix1 ℓ)
      = (Finset.univ : Finset (Fin 80)).fold IntOp.minsi acc (fun r => src (ix2 r ℓ)) := by
  refine (multiReductionI_eq_fold .minsi src acc reduces_S80x128_S128 hacc (ix1 ℓ)).trans ?_
  refine (reduces_S80x128_S128.fold_filter_drop_single IntOp.minsi acc src (ix1 ℓ)).trans ?_
  have e : src ∘ reduces_S80x128_S128.lift (ix1 ℓ) = fun r : Fin 80 => src (ix2 r ℓ) :=
    funext fun r => congrArg src (lift_row ℓ r)
  rw [e]
  rfl

/-- A small index's word, as an integer. -/
theorem toInt_small {n : ℕ} (h : n < 2147483648) : (BitVec.ofNat 32 n).toInt = (n : ℤ) := by
  rw [BitVec.toInt_ofNat']
  simp only [Int.bmod_def]
  omega

/-- Where the rows hold the scans of a family's entries `80 k + r`, the combination is the family's first greatest index. -/
theorem combine_apply (f : ℕ → EReal) (mx : FVec Ideal S80x128 .f32) (ax : IVec S80x128 32) (ℓ : Fin 128)
    (hmx : ∀ r : Fin 80, mx (ix2 r ℓ) = scanMax (row f 80 r.val) 1250)
    (hax : ∀ r : Fin 80, ax (ix2 r ℓ) = BitVec.ofNat 32 (80 * scanArg (row f 80 r.val) 1250)) :
    ∃ w, IsFirstMax f 100000 w ∧ combine mx ax (ix2 0 ℓ) = BitVec.ofNat 32 w := by
  -- the greatest of the rows
  obtain ⟨r0, hr0⟩ := Finite.exists_max fun r : Fin 80 => scanMax (row f 80 r.val) 1250
  generalize hM : scanMax (row f 80 r0.val) 1250 = M at hr0
  -- the least index among the rows that reach it
  obtain ⟨r1, hr1, hmin⟩ := Finset.exists_min_image
    (Finset.univ.filter fun r : Fin 80 => scanMax (row f 80 r.val) 1250 = M)
    (fun r : Fin 80 => 80 * scanArg (row f 80 r.val) 1250 + r.val) ⟨r0, by simpa using hM⟩
  have hr1 : scanMax (row f 80 r1.val) 1250 = M := by simpa using hr1
  have hlt : ∀ r : Fin 80, 80 * scanArg (row f 80 r.val) 1250 + r.val < 100000 := fun r => by
    have := scanArg_lt (row f 80 r.val) (n := 1250) (by decide)
    have := r.isLt
    omega
  refine ⟨80 * scanArg (row f 80 r1.val) 1250 + r1.val, ?_, ?_⟩
  · exact isFirstMax_of_rows f (R := 80) (K := 1250) (by decide) (by decide) (fun r hr => hr0 ⟨r, hr⟩)
      ⟨r1.val, r1.isLt, hr1, rfl⟩ fun r hr h => hmin ⟨r, hr⟩ (by simpa using h)
  · unfold combine
    refine (shapeCast_apply _ _ (ix2 0 ℓ) (ix1 ℓ) (by
      rw [Shape.rowMajor_val_one, Shape.rowMajor_val_two]; show ℓ.val = 0 * 128 + ℓ.val; omega)).trans ?_
    refine (minimum_apply _ _ _ ℓ).trans ?_
    have hg : ∀ r : Fin 80, (select (cmpf .oeq mx (broadcastTo S80x128 (shapeCast S1x128
          (multiReduction .maximumf [0] S128 mx 0xFF800000#32 reduces_S80x128_S128 (.inl rfl) rfl) shapeCasts_S128_S1x128)
          broadcasts_S1x128_S80x128))
        (addi ax (iota .tc S80x128 32 [0] iota_S80x128_d0_w32)) (broadcast S80x128 1073741824#32)) (ix2 r ℓ)
        = BitVec.ofNat 32 (if scanMax (row f 80 r.val) 1250 = M then 80 * scanArg (row f 80 r.val) 1250 + r.val else 1073741824) := by
      intro r
      have hbc : broadcastTo S80x128 (shapeCast S1x128
          (multiReduction .maximumf [0] S128 mx 0xFF800000#32 reduces_S80x128_S128 (.inl rfl) rfl) shapeCasts_S128_S1x128)
          broadcasts_S1x128_S80x128 (ix2 r ℓ) = M :=
        (broadcastTo_apply _ _ (ix2 r ℓ) (ix2 0 ℓ) (fun a => by match a with | ⟨0, _⟩ => rfl | ⟨1, _⟩ => rfl)).trans
          ((shapeCast_apply _ _ (ix2 0 ℓ) (ix1 ℓ) (by
            rw [Shape.rowMajor_val_one, Shape.rowMajor_val_two]; show ℓ.val = 0 * 128 + ℓ.val; omega)).trans
          (maximum_apply mx _ _ ℓ M r0 (fun r => (hmx r).trans_le (hr0 r)) ((hmx r0).trans hM)))
      show Scalar.select (FloatOps.cmpf .oeq (mx (ix2 r ℓ)) (broadcastTo S80x128 _ broadcasts_S1x128_S80x128 (ix2 r ℓ)))
        (ax (ix2 r ℓ) + iota .tc S80x128 32 [0] iota_S80x128_d0_w32 (ix2 r ℓ)) 1073741824#32 = _
      rw [hbc, hmx, hax, iota_single_apply]
      refine (select_decide _ _ _).trans ?_
      split_ifs
      · rw [BitVec.ofNat_add]
      · rfl
    refine fold_minsi_eq _ _ _ ?_ ⟨r1, ?_⟩ fun r => ?_
    · rw [toInt_small (by have := hlt r1; omega)]
      have := hlt r1
      show _ ≤ (2147483647 : ℤ)
      omega
    · rw [hg, if_pos hr1]
    · rw [hg]
      split_ifs with h
      · rw [toInt_small (by have := hlt r1; omega), toInt_small (by have := hlt r; omega)]
        exact_mod_cast hmin r (by simpa using h)
      · rw [toInt_small (by have := hlt r1; omega), toInt_small (by decide)]
        have := hlt r1
        omega

/-- THE KERNEL'S RESULT: lane `ℓ` is the first greatest index of the lane's scores. -/
theorem result_apply (c : Dev nD) (ℓ : Fin 128) :
    ∃ w, IsFirstMax (scores m c ℓ) 100000 w ∧ result m c (ix1 ℓ) = BitVec.ofNat 32 w := by
  obtain ⟨w, hw, e⟩ := combine_apply (scores m c ℓ) (bestAt m c 4 lt4) (basesAt m c 4 lt4) ℓ
    (fun r => (scratch_scan m c r ℓ 4 lt4).1) (fun r => (scratch_scan m c r ℓ 4 lt4).2)
  refine ⟨w, hw, Eq.trans ?_ e⟩
  exact shapeCast_apply _ _ (ix1 ℓ) (ix2 0 ℓ) (by
    rw [Shape.rowMajor_val_one, Shape.rowMajor_val_two]; show 0 * 128 + ℓ.val = ℓ.val; omega)

end Cert.KernelIdeal.Value
-- ==== Proof.HostRun.lean ====
/-
  What the reference's run leaves: the program is a straight line of array operations, so its result is their composition at
  the arguments, here given a name at each line of the Python text.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Host

open Cert.ReferenceIdeal Cert.ReferenceIdeal.Gen Idealize.ShloMosaic Idealize.ShloMosaic.TcCoe Idealize.ShloMosaic.StableHlo
  Idealize.SL.Sem

variable {F : FTy → Type} [FloatOps F]

/-- A number for each row, at every entry of its row. -/
def alongRows (x : FVec F S128 .f32) : FVec F S128x100000 .f32 :=
  broadcastInDim S128x100000 ![0, 1] bcast_S128x1_S128x100000_0_1 (broadcastInDim S128x1 ![0] bcast_S128_S128x1_0 x)

/-- The temperatures, none below the floor. -/
def clipped (t : FVec F S128 .f32) : FVec F S128 .f32 :=
  maximumf (broadcastInDim S128 ![] bcast_S_S128 (constant S_ .f32 0x2EDBE6FF#32)) t

/-- The logits over the temperatures. -/
def quotients (l : FVec F S128x100000 .f32) (t : FVec F S128 .f32) : FVec F S128x100000 .f32 := Host.divf l (alongRows (clipped t))

/-- Each row's greatest entry. -/
def rowPeak (x : FVec F S128x100000 .f32) : FVec F S128 .f32 :=
  maximumf (broadcastInDim S128 ![] bcast_S_S128 (constant S_ .f32 0xFF800000#32))
    (Idealize.ShloMosaic.Host.reduce FloatOps.maximumf x (constant S_ .f32 0xFF800000#32) reducesTo_S128x100000_S128_d1 h_S_)

/-- The exponentials of the entries less their row's greatest. -/
def exponentials (x : FVec F S128x100000 .f32) : FVec F S128x100000 .f32 :=
  Host.exp (subf x (alongRows (rowPeak x)))

/-- The softmax of each row. -/
def softmax (x : FVec F S128x100000 .f32) : FVec F S128x100000 .f32 :=
  Host.divf (exponentials x)
    (alongRows (Host.reduceAdd (exponentials x) (constant S_ .f32 0x00000000#32) reducesTo_S128x100000_S128_d1 h_S_))

/-- The probabilities over the draws. -/
def ratios (l : FVec F S128x100000 .f32) (t : FVec F S128 .f32) (e : FVec F S1x100000 .f32) : FVec F S128x100000 .f32 :=
  Host.divf (softmax (quotients l t)) (broadcastInDim S128x100000 ![0, 1] bcast_S1x100000_S128x100000_0_1 e)

/-- The indices of an arg-max, of its (value, index) pairs. -/
def argmaxIndex {s t u : Shape} {axes : List (Fin s.rank)} {β : Type} (r : F .f32 × β → F .f32 × β → F .f32 × β) (x : FVec F s .f32)
    (y : s.Idx → β) (ix : u.Idx → F .f32) (iy : u.Idx → β) (h : s.ReducesTo axes t) (hu : 0 < u.numel) : t.Idx → β :=
  fun j => (Host.argReduce r x y ix iy h hu j).2

/-- Each row's arg-max. -/
def rowArgmax (x : FVec F S128x100000 .f32) : IVec S128 32 :=
  argmaxIndex reducer_argmax_f32_i32 x (iotaInDim S128x100000 32 1) (constant S_ .f32 0xFF800000#32) (constantI S_ 32 0#32)
    reducesTo_S128x100000_S128_d1 h_S_

/-- The program's operations, in order, with the two called functions' at their calls. -/
abbrev ops : List (HloOp τ sig (Elt F)) :=
  [ nullary main_cst (constant S_ .f32 0x2EDBE6FF#32),
    TRef.unary (.of main_cst) main_call0.v0 id,
    TRef.unary main_call0.v0 main_call0.v1 (broadcastInDim S128 ![] bcast_S_S128),
    TRef.binary main_call0.v1 (.of main_arg1) main_call0.v2 maximumf,
    unary main_v0 main_v1 (broadcastInDim S128x1 ![0] bcast_S128_S128x1_0),
    unary main_v1 main_v2 (broadcastInDim S128x100000 ![0, 1] bcast_S128x1_S128x100000_0_1),
    binary main_arg0 main_v2 main_v3 Host.divf,
    nullary main_cst_0 (constant S_ .f32 0xFF800000#32),
    binary main_v3 main_cst_0 main_v4 (fun x v => Host.reduce FloatOps.maximumf x v reducesTo_S128x100000_S128_d1 h_S_),
    nullary main_cst_1 (constant S_ .f32 0xFF800000#32),
    unary main_cst_1 main_v5 (broadcastInDim S128 ![] bcast_S_S128),
    binary main_v5 main_v4 main_v6 maximumf,
    unary main_v6 main_v7 (broadcastInDim S128x1 ![0] bcast_S128_S128x1_0),
    unary main_v7 main_v8 (broadcastInDim S128x100000 ![0, 1] bcast_S128x1_S128x100000_0_1),
    binary main_v3 main_v8 main_v9 subf,
    unary main_v9 main_v10 Host.exp,
    nullary main_cst_2 (constant S_ .f32 0x00000000#32),
    binary main_v10 main_cst_2 main_v11 (fun x v => Host.reduceAdd x v reducesTo_S128x100000_S128_d1 h_S_),
    unary main_v11 main_v12 (broadcastInDim S128x1 ![0] bcast_S128_S128x1_0),
    unary main_v12 main_v13 (broadcastInDim S128x100000 ![0, 1] bcast_S128x1_S128x100000_0_1),
    binary main_v10 main_v13 main_v14 Host.divf,
    unary main_arg2 main_v15 (broadcastInDim S128x100000 ![0, 1] bcast_S1x100000_S128x100000_0_1),
    binary main_v14 main_v15 main_v16 Host.divf,
    TRef.nullary main_call1.v0 (iotaInDim S128x100000 32 1),
    TRef.nullary main_call1.cst (constant S_ .f32 0xFF800000#32),
    TRef.nullary main_call1.c (constantI S_ 32 0#32),
    TRef.quaternary (.of main_v16) main_call1.v0 main_call1.cst main_call1.c main_call1.v1_0
      (fun x y u v j => (Host.argReduce reducer_argmax_f32_i32 x y u v reducesTo_S128x100000_S128_d1 h_S_ j).1),
    TRef.quaternary (.of main_v16) main_call1.v0 main_call1.cst main_call1.c main_call1.v1_1
      (fun x y u v j => (Host.argReduce reducer_argmax_f32_i32 x y u v reducesTo_S128x100000_S128_d1 h_S_ j).2) ]

theorem main_eq (c : Dev nD) : main (F := F) c = seq ops := by
  simp only [main, fn_clip.body, fn_argmax.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., unary_bufs_sub .., binary_bufs_sub .., nullary_bufs_sub ..,
    nullary_bufs_sub .., nullary_bufs_sub .., quaternary_bufs_sub .., quaternary_bufs_sub ..⟩

/-- The operations leave, in the result, the arg-max of the probabilities over the draws; -/
theorem after_result (V : Valuation τ sig (Elt F)) :
    after ops V (main_v17 : DevRef τ sig)
      = rowArgmax (ratios (V (main_arg0 : DevRef τ sig)) (V (main_arg1 : DevRef τ sig)) (V (main_arg2 : DevRef τ sig))) := by
  after_results_simp
  rfl

/-- and the three arguments as they were. -/
theorem after_arg0 (V : Valuation τ sig (Elt F)) : after ops V (main_arg0 : DevRef τ sig) = V (main_arg0 : DevRef τ sig) := by
  simp only [after_cons, after_nil]
  rfl
theorem after_arg1 (V : Valuation τ sig (Elt F)) : after ops V (main_arg1 : DevRef τ sig) = V (main_arg1 : DevRef τ sig) := by
  simp only [after_cons, after_nil]
  rfl
theorem after_arg2 (V : Valuation τ sig (Elt F)) : after ops V (main_arg2 : DevRef τ sig) = V (main_arg2 : DevRef τ sig) := by
  simp only [after_cons, after_nil]
  rfl

/-- The reference's result at the arguments a memory holds. -/
def result (m : (ℓ : Loc nD τ sig) → Buf (Elt F) ℓ) (c : Dev nD) : IVec S128 32 :=
  rowArgmax (ratios (m ((c.tc : Thread nD τ).loc main_arg0)) (m ((c.tc : Thread nD τ).loc main_arg1))
    (m ((c.tc : Thread nD τ).loc main_arg2)))

/-- Every run ends, its result the one above and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (after_result _), (h c main_arg0).trans (after_arg0 _),
      (h c main_arg1).trans (after_arg1 _), (h c main_arg2).trans (after_arg2 _)⟩)
    (run_seq scopedRefs_eq scopedSems_eq defs main (fun _ => ops) main_eq (fun _ => ops_sub) m ρ)

end Cert.ReferenceIdeal.Host
-- ==== Proof.HostScores.lean ====
/-
  What the reference's scores hold, entry by entry: row `ℓ` of them is the family `referenceScore` of that row's temperature,
  logits and draws.
-/
module

public import proofs.«01_k».proof.Proof.HostRun
public import proofs.«01_k».proof.Proof.Families
public import Idealize.ShloMosaic.Lib.IdealHost
public import Idealize.ShloMosaic.Lib.ValueIdx
public import Idealize.ShloMosaic.Lib.Pipeline.Value

@[expose] public section

noncomputable section

open Idealize.ShloMosaic Idealize.ShloMosaic.TcCoe Idealize.ShloMosaic.ValueIdx Idealize.SL.Sem

namespace Cert.ReferenceIdeal.Host

open Cert.ReferenceIdeal Cert.ReferenceIdeal.Gen Cert.Sampling

/-- The reductions are over the second axis. -/
theorem reduces : S128x100000.Reduces [1] S128 := by decide

theorem lift_entry (ℓ : Fin 128) (v : Fin 100000) : reduces.lift (ix1 ℓ) v = ix2 ℓ v := by
  funext a
  apply Fin.ext
  match a with
  | ⟨0, _⟩ => rfl
  | ⟨1, _⟩ => rfl

/-- A fold of maxima over `Fin N`, as a greatest value over the numbers below `N`. -/
theorem fold_max_eq_sup {N M : ℕ} (hN : N = M) (op : EReal → EReal → EReal) [Std.Commutative op] [Std.Associative op] (hop : op = max)
    {b : EReal} (hb : b = ⊥) (g : Fin N → EReal) (f : ℕ → EReal) (h : ∀ v : Fin N, g v = f v.val) :
    (Finset.univ : Finset (Fin N)).fold op b g = (Finset.range M).sup f := by
  subst hN hop hb
  refine le_antisymm ((Finset.fold_max_le _).mpr ⟨bot_le, fun v _ => ?_⟩) (Finset.sup_le fun u hu => ?_)
  · rw [h]
    exact Finset.le_sup (Finset.mem_range.mpr v.isLt)
  · exact (Finset.le_fold_max _).mpr (.inr ⟨⟨u, Finset.mem_range.mp hu⟩, Finset.mem_univ _, (h ⟨u, Finset.mem_range.mp hu⟩).ge⟩)

/-- A sum over `Fin N`, as a sum over the numbers below `N`. -/
theorem sum_eq_range {N M : ℕ} (hN : N = M) (g : Fin N → EReal) (f : ℕ → EReal) (h : ∀ v : Fin N, g v = f v.val) :
    ∑ v, g v = ∑ u ∈ Finset.range M, f u := by
  subst hN
  rw [← Fin.sum_univ_eq_sum_range]
  exact Finset.sum_congr rfl fun v _ => h v

/-- A quotient of arrays, at an index. -/
theorem quotient_at {s : Shape} (x y : FVec Ideal s .f32) (i : s.Idx) {a b : EReal} (ha : x i = a) (hb : y i = b) :
    Host.divf x y i = Ideal.div a b := by
  subst ha hb
  rfl

/-- An exponential of a difference of arrays, at an index. -/
theorem exponential_at {s : Shape} (x y : FVec Ideal s .f32) (i : s.Idx) {a b : EReal} (ha : x i = a) (hb : y i = b) :
    Host.exp (subf x y) i = Ideal.exp (a - b) := by
  subst ha hb
  rfl

section Entries

variable (ℓ : Fin 128) (v : Fin 100000)

theorem alongRows_apply (x : FVec Ideal S128 .f32) : alongRows x (ix2 ℓ v) = x (ix1 ℓ) := by
  unfold alongRows
  refine (broadcastInDim_apply _ _ _ (ix2 ℓ v) (ix2 ℓ (0 : Fin 1)) fun a => ?_).trans
    (broadcastInDim_apply _ _ _ (ix2 ℓ (0 : Fin 1)) (ix1 ℓ) fun a => ?_)
  · match a with
    | ⟨0, _⟩ => rfl
    | ⟨1, _⟩ => rfl
  · match a with
    | ⟨0, _⟩ => rfl

theorem quotients_apply (l : FVec Ideal S128x100000 .f32) (t : FVec Ideal S128 .f32) :
    quotients l t (ix2 ℓ v) = scaled (t (ix1 ℓ)) (entries l ℓ) v.val := by
  have e : alongRows (clipped t) (ix2 ℓ v) = max floor (t (ix1 ℓ)) := (alongRows_apply ℓ v _).trans rfl
  unfold scaled
  rw [entries_of_lt l ℓ v.isLt]
  exact quotient_at _ _ _ rfl e

variable (x : FVec Ideal S128x100000 .f32) (f : ℕ → EReal) (hx : ∀ u : Fin 100000, x (ix2 ℓ u) = f u.val)
include hx

theorem rowPeak_apply : rowPeak x (ix1 ℓ) = (Finset.range 100000).sup f := by
  have hb : Ideal.ofBits .f32 0xFF800000#32 = (⊥ : EReal) := by simp [Ideal.ofBits, Ideal.ieee]
  have e1 : Host.reduce FloatOps.maximumf x (constant S_ .f32 0xFF800000#32) reducesTo_S128x100000_S128_d1 h_S_ (ix1 ℓ)
      = (Finset.range 100000).sup f :=
    (Host.reduce_eq_fold_single FloatOps.maximumf x _ _ reduces h_S_ (ix1 ℓ)).trans
      (fold_max_eq_sup rfl _ rfl hb _ f fun u => (congrArg x (lift_entry ℓ u)).trans (hx u))
  unfold rowPeak
  refine (maximumf_apply _ _ _).trans ?_
  rw [e1]
  refine (congrArg (fun b => max b ((Finset.range 100000).sup f)) ?_).trans (max_eq_right bot_le)
  exact (broadcastInDim_scalar_apply _ _ _).trans hb

theorem exponentials_apply : exponentials x (ix2 ℓ v) = Ideal.exp (f v.val - (Finset.range 100000).sup f) := by
  have e : alongRows (rowPeak x) (ix2 ℓ v) = (Finset.range 100000).sup f :=
    (alongRows_apply ℓ v _).trans (rowPeak_apply ℓ x f hx)
  exact exponential_at _ _ _ (hx v) e

theorem softmax_apply : softmax x (ix2 ℓ v) = Ideal.div (Ideal.exp (f v.val - (Finset.range 100000).sup f))
    (∑ u ∈ Finset.range 100000, Ideal.exp (f u - (Finset.range 100000).sup f)) := by
  have e : Host.reduceAdd (exponentials x) (constant S_ .f32 0x00000000#32) reducesTo_S128x100000_S128_d1 h_S_ (ix1 ℓ)
      = ∑ u ∈ Finset.range 100000, Ideal.exp (f u - (Finset.range 100000).sup f) := by
    refine (hostReduceAdd_apply _ _ _ h_S_ (ix1 ℓ)).trans ?_
    refine (Ideal.hostReduceAdd_single reducesTo_S128x100000_S128_d1 reduces _ _ _).trans ?_
    have e0 : (constant (F := Ideal) S_ .f32 0x00000000#32) (Shape.Idx.first h_S_) = (0 : EReal) := Ideal.ofBits_zero_f32
    rw [e0, zero_add]
    exact sum_eq_range rfl _ (fun u => Ideal.exp (f u - (Finset.range 100000).sup f)) fun u =>
      (congrArg (exponentials x) (lift_entry ℓ u)).trans (exponentials_apply ℓ u x f hx)
  exact quotient_at _ _ _ (exponentials_apply ℓ v x f hx) ((alongRows_apply ℓ v _).trans e)

end Entries

/-- Row `ℓ` of the reference's scores. -/
theorem ratios_apply (l : FVec Ideal S128x100000 .f32) (t : FVec Ideal S128 .f32) (e : FVec Ideal S1x100000 .f32) (ℓ : Fin 128)
    (v : Fin 100000) :
    ratios l t e (ix2 ℓ v) = referenceScore (t (ix1 ℓ)) (entries l ℓ) (entries e 0) 100000 v.val := by
  have h1 := softmax_apply ℓ v (quotients l t) (scaled (t (ix1 ℓ)) (entries l ℓ)) fun u => quotients_apply ℓ u l t
  have h2 : broadcastInDim S128x100000 ![0, 1] bcast_S1x100000_S128x100000_0_1 e (ix2 ℓ v) = entries e 0 v.val := by
    rw [entries_of_lt e 0 v.isLt]
    refine broadcastInDim_apply _ _ _ (ix2 ℓ v) (ix2 (0 : Fin 1) v) fun a => ?_
    match a with
    | ⟨0, _⟩ => rfl
    | ⟨1, _⟩ => rfl
  exact quotient_at _ _ _ h1 h2

end Cert.ReferenceIdeal.Host
-- ==== Proof.HostArgmax.lean ====
/-
  What the reference's result holds: its arg-max of row `ℓ` is the first greatest index of the row's scores.
-/
module

public import proofs.«01_k».proof.Proof.HostScores
public import proofs.«01_k».proof.Proof.FirstMax
public import Idealize.ShloMosaic.Lib.IdealHost
public import Idealize.ShloMosaic.Lib.ValueIdx
public import Idealize.ShloMosaic.Lib.Pipeline.Value

@[expose] public section

noncomputable section

open Idealize.ShloMosaic Idealize.ShloMosaic.TcCoe Idealize.ShloMosaic.ValueIdx Idealize.SL.Sem

namespace Cert.ReferenceIdeal.Host

open Cert.ReferenceIdeal Cert.ReferenceIdeal.Gen Cert.Sampling

/-! ## The arg-max -/

/-- A small index's word, as an integer. -/
theorem toInt_index {n : ℕ} (h : n < 100000) : (BitVec.ofNat 32 n).toInt = (n : ℤ) := by
  rw [BitVec.toInt_ofNat']
  simp only [Int.bmod_def]
  omega

/-- One step of the arg-max, on indices written as words, is the step `pick` on the indices. -/
theorem reducer_apply (a b : EReal) {k u : ℕ} (hk : k < 100000) (hu : u < 100000) :
    reducer_argmax_f32_i32 (F := Ideal) (a, BitVec.ofNat 32 k) (b, BitVec.ofNat 32 u)
      = ((pick (a, k) (b, u)).1, BitVec.ofNat 32 (pick (a, k) (b, u)).2) := by
  have hne : FloatOps.cmpf (F := Ideal) (φ := .f32) .une a a = 0#1 := by simp [Ideal.cmpf_def, Ideal.cmp]
  have hgt : FloatOps.cmpf (F := Ideal) (φ := .f32) .ogt a b = BitVec.ofBool (decide (b < a)) := rfl
  have heq : FloatOps.cmpf (F := Ideal) (φ := .f32) .oeq a b = BitVec.ofBool (decide (a = b)) := rfl
  have hlt : IntOp.cmpi .slt (BitVec.ofNat 32 k) (BitVec.ofNat 32 u) = BitVec.ofBool (decide (k < u)) := by
    show BitVec.ofBool (BitVec.slt _ _) = _
    rw [BitVec.slt, toInt_index hk, toInt_index hu]
    simp
  unfold reducer_argmax_f32_i32 pick
  dsimp only
  rw [hne, hgt, heq, hlt]
  by_cases h1 : b < a <;> by_cases h2 : a = b <;> by_cases h3 : k < u <;> simp [h1, h2, h3, IntOp.ori, IntOp.andi, Scalar.select]

theorem pick_lt {a b : EReal × ℕ} (ha : a.2 < 100000) (hb : b.2 < 100000) : (pick a b).2 < 100000 := by
  unfold pick
  dsimp only
  split_ifs
  · exact ha
  · exact hb

/-- The arg-max's fold over a list of entries of row `ℓ`, as a fold of `pick` over their indices. -/
theorem foldl_reducer (x : FVec Ideal S128x100000 .f32) (f : ℕ → EReal) (ℓ : Fin 128)
    (hx : ∀ u : Fin 100000, x (ix2 ℓ u) = f u.val) : ∀ (L : List S128x100000.Idx) (a : EReal) (k : ℕ), k < 100000 →
    (∀ i ∈ L, i 0 = ℓ) →
    (L.map fun i => (x i, iotaInDim S128x100000 32 1 i)).foldl reducer_argmax_f32_i32 (a, BitVec.ofNat 32 k)
      = (((L.map fun i => (i 1).val).foldl (fun b u => pick b (f u, u)) (a, k)).1,
          BitVec.ofNat 32 ((L.map fun i => (i 1).val).foldl (fun b u => pick b (f u, u)) (a, k)).2)
  | [], a, k, _, _ => rfl
  | i :: L, a, k, hk, hL => by
    have hi : i = ix2 ℓ (i 1) := (eq_ix2 i).trans (congrArg (fun r => ix2 r (i 1)) (hL i (List.mem_cons_self ..)))
    have hxi : x i = f (i 1).val := (congrArg x hi).trans (hx (i 1))
    have hu : (i 1).val < 100000 := (i 1).isLt
    rw [List.map_cons, List.map_cons, List.foldl_cons, List.foldl_cons, hxi]
    have e : iotaInDim S128x100000 32 1 i = BitVec.ofNat 32 (i 1).val := rfl
    rw [e, reducer_apply a (f (i 1).val) hk hu]
    exact foldl_reducer x f ℓ hx L _ _ (pick_lt hk hu) fun j hj => hL j (List.mem_cons_of_mem _ hj)

/-- The indices of an array that a reduction takes to `j`, in the order it folds them. -/
def fiber {s t : Shape} {axes : List (Fin s.rank)} (h : s.ReducesTo axes t) (j : t.Idx) : List s.Idx :=
  ((List.finRange s.numel).filter fun n => h.drop (s.rowMajor.symm n) = j).map s.rowMajor.symm

theorem mem_fiber {s t : Shape} {axes : List (Fin s.rank)} (h : s.ReducesTo axes t) (j : t.Idx) (i : s.Idx) :
    i ∈ fiber h j ↔ h.drop i = j := by
  simp only [fiber, List.mem_map, List.mem_filter, List.mem_finRange, true_and, decide_eq_true_eq]
  constructor
  · rintro ⟨n, hn, rfl⟩
    exact hn
  · exact fun e => ⟨s.rowMajor i, by rw [Equiv.symm_apply_apply]; exact e, Equiv.symm_apply_apply _ _⟩

/-- The arg-max at `j` folds the pairs at those indices. -/
theorem argmax_eq_foldl {s t u : Shape} {axes : List (Fin s.rank)} {β : Type}
    (r : Ideal .f32 × β → Ideal .f32 × β → Ideal .f32 × β) (x : FVec Ideal s .f32) (y : s.Idx → β) (ix : u.Idx → Ideal .f32)
    (iy : u.Idx → β) (h : s.ReducesTo axes t) (hu : 0 < u.numel) (j : t.Idx) :
    argmaxIndex r x y ix iy h hu j
      = (((fiber h j).map fun i => (x i, y i)).foldl r (ix (Shape.Idx.first hu), iy (Shape.Idx.first hu))).2 := by
  unfold argmaxIndex
  rw [Ideal.argReduce_eq_reduce2, Host.reduce2_eq_foldl_fiber, Host.argReduceFiber, fiber, List.map_map]
  rfl

/-- Row `ℓ`'s indices are those the reduction takes to `ℓ`. -/
theorem drop_iff (ℓ : Fin 128) (i : S128x100000.Idx) : reducesTo_S128x100000_S128_d1.drop i = ix1 ℓ ↔ i 0 = ℓ := by
  have e : (reducesTo_S128x100000_S128_d1.drop i 0).val = (i 0).val :=
    Shape.ReducesTo.drop_apply_val_of_eq reducesTo_S128x100000_S128_d1 i 0 0 (by decide)
  constructor
  · intro h
    exact Fin.ext (e.symm.trans (congrArg (fun j : S128.Idx => (j 0).val) h))
  · intro h
    rw [eq_ix1 (reducesTo_S128x100000_S128_d1.drop i)]
    exact congrArg ix1 (Fin.ext (e.trans (congrArg Fin.val h)))

/-- The arg-max of row `ℓ` is the first greatest index of its entries. -/
theorem rowArgmax_apply (x : FVec Ideal S128x100000 .f32) (f : ℕ → EReal) (ℓ : Fin 128)
    (hx : ∀ u : Fin 100000, x (ix2 ℓ u) = f u.val) :
    ∃ w, IsFirstMax f 100000 w ∧ rowArgmax x (ix1 ℓ) = BitVec.ofNat 32 w := by
  have hmem : ∀ i, i ∈ fiber reducesTo_S128x100000_S128_d1 (ix1 ℓ) ↔ i 0 = ℓ := fun i =>
    (mem_fiber _ _ i).trans (drop_iff ℓ i)
  have hN : 0 < 100000 := by norm_num
  have hb : (constant (F := Ideal) S_ .f32 0xFF800000#32) (Shape.Idx.first h_S_) = (⊥ : EReal) := by
    show Ideal.ofBits .f32 0xFF800000#32 = ⊥
    simp [Ideal.ofBits, Ideal.ieee]
  have hz : constantI S_ 32 0#32 (Shape.Idx.first h_S_) = BitVec.ofNat 32 0 := rfl
  have hfold := argmax_eq_foldl reducer_argmax_f32_i32 x (iotaInDim S128x100000 32 1) (constant S_ .f32 0xFF800000#32)
    (constantI S_ 32 0#32) reducesTo_S128x100000_S128_d1 h_S_ (ix1 ℓ)
  rw [hb, hz] at hfold
  generalize fiber reducesTo_S128x100000_S128_d1 (ix1 ℓ) = L at hmem hfold
  have hl : ∀ u, u ∈ (L.map fun i => (i 1).val) ↔ u < 100000 := fun u => by
    rw [List.mem_map]
    constructor
    · rintro ⟨i, _, rfl⟩
      exact (i 1).isLt
    · exact fun h => ⟨ix2 ℓ ⟨u, h⟩, (hmem _).mpr rfl, rfl⟩
  rw [foldl_reducer x f ℓ hx L ⊥ 0 hN fun i hi => (hmem i).mp hi] at hfold
  exact ⟨_, isFirstMax_foldl f hN _ hl, hfold⟩

/-- THE REFERENCE'S RESULT: row `ℓ` is the first greatest index of the row's scores. -/
theorem result_apply (m : (ℓ : Loc nD τ sig) → Buf (Elt Ideal) ℓ) (c : Dev nD) (ℓ : Fin 128) :
    ∃ w, IsFirstMax (referenceScore (m ((c.tc : Thread nD τ).loc main_arg1) (ix1 ℓ))
        (entries (m ((c.tc : Thread nD τ).loc main_arg0)) ℓ) (entries (m ((c.tc : Thread nD τ).loc main_arg2)) 0) 100000) 100000 w
      ∧ result m c (ix1 ℓ) = BitVec.ofNat 32 w :=
  rowArgmax_apply _ _ ℓ fun u => ratios_apply _ _ _ ℓ u

end Cert.ReferenceIdeal.Host
-- ==== Proof.Order.lean ====
/-
  The equation. Where no logit is `⊤` and every draw is a real number that is not negative, the kernel's and the reference's
  scores of a lane have the same first greatest index: a reference score is, up to one positive factor, the exponential of the
  kernel's.
-/
module

public import proofs.«01_k».proof.Proof.Families
public import proofs.«01_k».proof.Proof.FirstMax

@[expose] public section

noncomputable section

open Idealize.ShloMosaic

namespace Cert.Sampling

/-- The least temperature divided by is a positive real number. -/
theorem floor_pos : ∃ r : ℝ, 0 < r ∧ floor = (r : EReal) := by
  unfold floor
  refine ⟨14411519 * (2 : ℝ) ^ (-57 : ℤ), by positivity, ?_⟩
  simp [Ideal.ofBits, Ideal.ieee]

/-- Dividing by the temperature is multiplying by a real number that is not negative. -/
theorem inverse_real (t : EReal) : ∃ r : ℝ, 0 ≤ r ∧ Ideal.div 1 (max floor t) = (r : EReal)
    ∧ ∀ x, Ideal.div x (max floor t) = x * (r : EReal) := by
  obtain ⟨f, hf, ef⟩ := floor_pos
  have hd : 0 < max floor t := lt_max_of_lt_left (by rw [ef]; exact_mod_cast hf)
  generalize max floor t = d at hd
  have hdiv : ∀ x, Ideal.div x d = x * d⁻¹ := fun x => if_neg hd.ne'
  induction d with
  | bot => exact absurd hd (by simp)
  | top => exact ⟨0, le_rfl, by rw [hdiv]; simp, fun x => by rw [hdiv]; simp⟩
  | coe d => exact ⟨d⁻¹, by have : 0 < d := by exact_mod_cast hd
                            positivity, by rw [hdiv, one_mul, EReal.coe_inv], fun x => by rw [hdiv, EReal.coe_inv]⟩

/-- A sum of real numbers, read as extended reals. -/
theorem sum_coe (w : ℕ → ℝ) (s : Finset ℕ) : ∑ u ∈ s, (w u : EReal) = ((∑ u ∈ s, w u : ℝ) : EReal) := by
  induction s using Finset.cons_induction with
  | empty => simp
  | cons a s ha ih => rw [Finset.sum_cons, Finset.sum_cons, ih, EReal.coe_add]

/-- How the two scores of one index stand: both at the bottom (the reference's at most 0), both `⊤`, or the kernel's a real
    number and the reference's its exponential times `K`. -/
def Matched (K : ℝ) (s g : EReal) : Prop :=
  (s = ⊥ ∧ g ≤ 0) ∨ (s = ⊤ ∧ g = ⊤) ∨ ∃ a : ℝ, s = (a : EReal) ∧ g = ((Real.exp a * K : ℝ) : EReal)

theorem Matched.lt {K : ℝ} (hK : 0 < K) {s g s' g' : EReal} (h : Matched K s g) (h' : Matched K s' g') (hlt : s < s') : g < g' := by
  rcases h' with ⟨rfl, _⟩ | ⟨rfl, rfl⟩ | ⟨a', rfl, rfl⟩
  · exact absurd hlt not_lt_bot
  · rcases h with ⟨_, hg⟩ | ⟨rfl, _⟩ | ⟨a, _, rfl⟩
    · exact hg.trans_lt EReal.zero_lt_top
    · exact absurd hlt (lt_irrefl _)
    · exact EReal.coe_lt_top _
  · rcases h with ⟨_, hg⟩ | ⟨rfl, _⟩ | ⟨a, rfl, rfl⟩
    · refine hg.trans_lt ?_
      have : 0 < Real.exp a' * K := by positivity
      exact_mod_cast this
    · exact absurd hlt not_top_lt
    · have h1 : a < a' := by exact_mod_cast hlt
      have h2 : Real.exp a * K < Real.exp a' * K := mul_lt_mul_of_pos_right (Real.exp_lt_exp.mpr h1) hK
      exact_mod_cast h2

theorem Matched.eq {K : ℝ} {s g s' g' : EReal} (h : Matched K s g) (h' : Matched K s' g') (hb : ⊥ < s) (he : s = s') : g = g' := by
  subst he
  rcases h with ⟨rfl, _⟩ | ⟨rfl, rfl⟩ | ⟨a, rfl, rfl⟩
  · exact absurd hb (lt_irrefl _)
  · rcases h' with ⟨h, _⟩ | ⟨_, rfl⟩ | ⟨a, h, _⟩
    · exact absurd h (by simp)
    · rfl
    · exact absurd h.symm (EReal.coe_ne_top a)
  · rcases h' with ⟨h, _⟩ | ⟨h, _⟩ | ⟨a', h, rfl⟩
    · exact absurd h (EReal.coe_ne_bot a)
    · exact absurd h (EReal.coe_ne_top a)
    · rw [EReal.coe_eq_coe_iff.mp h]

/-- The scores of one index: `x` the scaled logit, `m` the greatest of them, `S` the sum of the weights and `e` the draw. -/
theorem matched {x e : EReal} {m S : ℝ} (hS : 0 < S) (hx : x ≠ ⊤) (he0 : 0 ≤ e) (he : e < ⊤) :
    Matched (Real.exp (-m) / S) (x + (0 - Ideal.log e))
      (Ideal.div (Ideal.div (Ideal.exp (x - (m : EReal))) (S : EReal)) e) := by
  have hS' : (S : EReal) ≠ 0 := by exact_mod_cast hS.ne'
  have hdS : ∀ y : ℝ, Ideal.div (y : EReal) (S : EReal) = ((y * S⁻¹ : ℝ) : EReal) := fun y => by
    rw [Ideal.div, if_neg hS', ← EReal.coe_inv, ← EReal.coe_mul]
  induction e with
  | bot => exact absurd he0 (by simp)
  | top => exact absurd he (lt_irrefl _)
  | coe c =>
    have hc : 0 ≤ c := by exact_mod_cast he0
    induction x with
    | top => exact absurd rfl hx
    | bot =>
      refine .inl ⟨EReal.bot_add _, ?_⟩
      have e0 : Ideal.exp (⊥ - (m : EReal)) = ((0 : ℝ) : EReal) := rfl
      rw [e0, hdS, zero_mul, Ideal.div]
      split_ifs with h1 h2
      · exact absurd h2 (by simp)
      · exact bot_le
      · simp
    | coe a =>
      have e1 : Ideal.exp ((a : EReal) - (m : EReal)) = ((Real.exp (a - m) : ℝ) : EReal) := rfl
      rw [e1, hdS]
      rcases hc.eq_or_lt with rfl | hc
      · have e2 : Ideal.log ((0 : ℝ) : EReal) = ⊥ := if_pos le_rfl
        refine .inr (.inl ⟨?_, ?_⟩)
        · rw [e2, zero_sub, EReal.neg_bot]; exact EReal.coe_add_top a
        · have : 0 < Real.exp (a - m) * S⁻¹ := by positivity
          rw [Ideal.div, if_pos (by simp), if_pos (by exact_mod_cast this)]
      · have e2 : Ideal.log (c : EReal) = ((Real.log c : ℝ) : EReal) := if_neg (not_le.mpr hc)
        have hc' : (c : EReal) ≠ 0 := by exact_mod_cast hc.ne'
        refine .inr (.inr ⟨a - Real.log c, ?_, ?_⟩)
        · rw [e2, zero_sub, ← EReal.coe_neg, ← EReal.coe_add, sub_eq_add_neg]
        · rw [Ideal.div, if_neg hc', ← EReal.coe_inv, ← EReal.coe_mul, EReal.coe_eq_coe_iff, Real.exp_sub, Real.exp_sub,
            Real.exp_log hc, Real.exp_neg]
          field_simp

/-- THE EQUATION: a first greatest index of the kernel's scores is one of the reference's. -/
theorem isFirstMax_reference {t : EReal} {l e : ℕ → EReal} {N v : ℕ} (hl : ∀ u, u < N → l u < ⊤)
    (he0 : ∀ u, u < N → 0 ≤ e u) (he : ∀ u, u < N → e u < ⊤) (h : IsFirstMax (kernelScore t l e) N v) :
    IsFirstMax (referenceScore t l e N) N v := by
  obtain ⟨r, hr, e1, ediv⟩ := inverse_real t
  have hk : ∀ u, kernelScore t l e u = scaled t l u + (0 - Ideal.log (e u)) := fun u => by
    unfold kernelScore scaled
    rw [e1, ediv]
  -- no scaled logit is the top
  have hx : ∀ u, u < N → scaled t l u ≠ ⊤ := fun u hu => by
    have hlu := hl u hu
    unfold scaled
    rw [ediv]
    generalize l u = y at hlu
    induction y with
    | top => exact absurd hlu (lt_irrefl _)
    | coe y => rw [← EReal.coe_mul]; exact EReal.coe_ne_top _
    | bot =>
      rcases hr.eq_or_lt with rfl | hr
      · simp
      · rw [EReal.bot_mul_coe_of_pos hr]; simp
  have hle : ∀ u, u < N → scaled t l u ≤ peak t l N := fun u hu => Finset.le_sup (Finset.mem_range.mpr hu)
  rcases eq_or_ne (peak t l N) ⊥ with hp | hp
  · -- every logit is the bottom: all scores are the bottom
    have hxb : ∀ u, u < N → scaled t l u = ⊥ := fun u hu => le_bot_iff.mp (hp ▸ hle u hu)
    have hkb : ∀ u, u < N → kernelScore t l e u = ⊥ := fun u hu => by rw [hk, hxb u hu, EReal.bot_add]
    have hw : ∀ u, u < N → weight t l N u = 0 := fun u hu => by
      unfold weight
      rw [hxb u hu, hp]
      rfl
    have hg : ∀ u, u < N → referenceScore t l e N u = ⊥ := fun u hu => by
      have hdz : Ideal.div (0 : EReal) 0 = ⊥ := by rw [Ideal.div, if_pos rfl, if_neg (lt_irrefl _)]
      unfold referenceScore
      rw [Finset.sum_eq_zero fun w hw' => hw w (Finset.mem_range.mp hw'), hw u hu, hdz, Ideal.div]
      have h0 := he0 u hu
      have h1 := he u hu
      generalize e u = y at h0 h1
      split_ifs with h2 h3
      · exact absurd h3 not_lt_bot
      · rfl
      · induction y with
        | bot => exact absurd h0 (by simp)
        | top => exact absurd h1 (lt_irrefl _)
        | coe y =>
          have hy : 0 < y := lt_of_le_of_ne (by exact_mod_cast h0) fun e => h2 (by rw [← e]; rfl)
          rw [← EReal.coe_inv, EReal.bot_mul_coe_of_pos (inv_pos.mpr hy)]
    refine h.congr (fun u w hu hw' hlt => ?_) (fun u w hu hw' hb _ => ?_) fun _ u w hu hw' => ?_
    · exact absurd hlt (by rw [hkb u hu, hkb w hw']; exact lt_irrefl _)
    · exact absurd hb (by rw [hkb w hw']; exact lt_irrefl _)
    · rw [hg u hu, hg w hw']
  · -- the greatest scaled logit is a real number, and so is the sum of the weights
    have hpt : peak t l N ≠ ⊤ := ((Finset.sup_lt_iff bot_lt_top).mpr fun u hu =>
      lt_top_iff_ne_top.mpr (hx u (Finset.mem_range.mp hu))).ne
    obtain ⟨m, hm⟩ : ∃ m : ℝ, peak t l N = (m : EReal) := ⟨_, (EReal.coe_toReal hpt hp).symm⟩
    obtain ⟨u0, hu0, hb0⟩ : ∃ u, u < N ∧ scaled t l u ≠ ⊥ := by
      by_contra hcon
      push Not at hcon
      exact hp (le_bot_iff.mp (Finset.sup_le fun u hu => (hcon u (Finset.mem_range.mp hu)).le))
    let w : ℕ → ℝ := fun u => if scaled t l u = ⊥ then 0 else Real.exp ((scaled t l u).toReal - m)
    have hw : ∀ u, u < N → weight t l N u = (w u : EReal) := fun u hu => by
      have hxu := hx u hu
      unfold weight
      simp only [w]
      rw [hm]
      generalize scaled t l u = y at hxu
      induction y with
      | top => exact absurd rfl hxu
      | bot => rw [if_pos rfl]; rfl
      | coe y => rw [if_neg (EReal.coe_ne_bot y)]; rfl
    have hw0 : ∀ u, 0 ≤ w u := fun u => by
      simp only [w]
      split_ifs
      · exact le_rfl
      · exact (Real.exp_pos _).le
    have hS : 0 < ∑ u ∈ Finset.range N, w u :=
      Finset.sum_pos' (fun u _ => hw0 u) ⟨u0, Finset.mem_range.mpr hu0, by
        simp only [w]
        rw [if_neg hb0]
        exact Real.exp_pos _⟩
    have hsum : ∑ u ∈ Finset.range N, weight t l N u = ((∑ u ∈ Finset.range N, w u : ℝ) : EReal) := by
      rw [← sum_coe]
      exact Finset.sum_congr rfl fun u hu => hw u (Finset.mem_range.mp hu)
    generalize (∑ u ∈ Finset.range N, w u) = S at hS hsum
    have hmat : ∀ u, u < N → Matched (Real.exp (-m) / S) (kernelScore t l e u) (referenceScore t l e N u) := fun u hu => by
      rw [hk]
      unfold referenceScore
      rw [hsum]
      unfold weight
      rw [hm]
      exact matched hS (hx u hu) (he0 u hu) (he u hu)
    have hK : 0 < Real.exp (-m) / S := by positivity
    refine h.congr (fun u w hu hw' hlt => (hmat u hu).lt hK (hmat w hw') hlt)
      (fun u w hu hw' hb e => (hmat u hu).eq (hmat w hw') (hb.trans_eq e.symm) e) fun hall => ?_
    -- not every kernel score is the bottom: the index `u0` has a real scaled logit
    exfalso
    have h0 := hall u0 hu0
    rw [hk, EReal.add_eq_bot_iff] at h0
    rcases h0 with h0 | h0
    · exact hb0 h0
    · have h1 := he u0 hu0
      have h2 := he0 u0 hu0
      generalize e u0 = y at h0 h1 h2
      rw [zero_sub, EReal.neg_eq_bot_iff] at h0
      induction y with
      | bot => exact absurd h2 (by simp)
      | top => exact absurd h1 (lt_irrefl _)
      | coe y =>
        have hy : Ideal.log (y : EReal) = if y ≤ 0 then ⊥ else ((Real.log y : ℝ) : EReal) := rfl
        rw [hy] at h0
        split_ifs at h0
        · exact absurd h0 (by simp)
        · exact absurd h0 (EReal.coe_ne_top _)

end Cert.Sampling
-- ==== Proof.Equation.lean ====
/-
  The kernel's result is the reference's, from memories that agree on arguments satisfying the precondition.
-/
module

public import proofs.«01_k».proof.Defs
public import proofs.«01_k».proof.Proof.Lanes
public import proofs.«01_k».proof.Proof.HostArgmax
public import proofs.«01_k».proof.Proof.Order

@[expose] public section

noncomputable section

namespace Cert.Proof

open Idealize.ShloMosaic Idealize.ShloMosaic.TcCoe Idealize.ShloMosaic.ValueIdx Idealize.SL.Sem Cert.Sampling

/-- The precondition's shape conditions. -/
theorem samplable_facts : Cert.Pre_samplable.Facts := ⟨by decide, by decide⟩

/-- A comparison that holds everywhere, at one index. -/
theorem decide_of_ones {p : Prop} [Decidable p] (h : BitVec.ofBool (decide p) = 1#1) : p := by
  by_contra hp
  simp [hp] at h

theorem top_bits : Ideal.ofBits .f32 0x7F800000#32 = (⊤ : EReal) := by simp [Ideal.ofBits, Ideal.ieee]

section Precondition

variable [Cert.Pre_samplable.Facts]
variable (l : FVec Ideal Cert.Pre_samplable.S128x100000 .f32) (t : FVec Ideal Cert.Pre_samplable.S128 .f32)
  (e : FVec Ideal Cert.Pre_samplable.S1x100000 .f32)

/-- The precondition's first part: every logit is below `⊤`. -/
theorem logit_lt (h : (Cert.Pre_samplable.fn l t e).1 = fun _ => 1#1) (i : Fin 128) (u : ℕ) (hu : u < 100000) :
    entries l i u < ⊤ := by
  rw [entries_of_lt l i hu, ← top_bits]
  exact decide_of_ones (congrFun h (ix2 i ⟨u, hu⟩))

/-- The second: no draw is negative. -/
theorem draw_nonneg (h : (Cert.Pre_samplable.fn l t e).2.1 = fun _ => 1#1) (u : ℕ) (hu : u < 100000) : 0 ≤ entries e 0 u := by
  rw [entries_of_lt e 0 hu, ← Ideal.ofBits_zero_f32]
  exact decide_of_ones (congrFun h (ix2 0 ⟨u, hu⟩))

/-- The third: every draw is below `⊤`. -/
theorem draw_lt (h : (Cert.Pre_samplable.fn l t e).2.2 = fun _ => 1#1) (u : ℕ) (hu : u < 100000) : entries e 0 u < ⊤ := by
  rw [entries_of_lt e 0 hu, ← top_bits]
  exact decide_of_ones (congrFun h (ix2 0 ⟨u, hu⟩))

end Precondition

/-- The two results are one array: each lane's two families of scores have one first greatest index. -/
theorem results_eq [Cert.Pre_samplable.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_samplable m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Host.result m' c = Cert.KernelIdeal.Value.result m c := by
  obtain ⟨hl, he0, he⟩ := hpre c
  funext j
  rw [eq_ix1 j]
  obtain ⟨v, hv, ev⟩ := Cert.KernelIdeal.Value.result_apply m c (j 0)
  obtain ⟨w, hw, ew⟩ := Cert.ReferenceIdeal.Host.result_apply m' c (j 0)
  rw [h0, h1, h2] at hw
  have hv' := isFirstMax_reference (logit_lt _ _ _ hl (j 0)) (draw_nonneg _ _ _ he0) (draw_lt _ _ _ he) hv
  exact ew.trans ((congrArg (BitVec.ofNat 32) (hw.unique hv')).trans ev.symm)

end Cert.Proof
-- ==== Proof.lean ====
/-
  The certificate: the printed kernel and its reference run and leave their arguments and every counter as they were, and over
  the extended reals, from arguments satisfying the precondition, they end with one result. The frames of the kernel are the
  generated ones; the reference's comes from its run; the equality of the results is `results_eq`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import Idealize.ShloMosaic.Lib.Quiescent

@[expose] public section

noncomputable section

namespace Cert.Proof

open Idealize.ShloMosaic Idealize.SL.Sem

/-- The reference ends with its arguments unchanged and every counter at zero: it has no counters. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Host.run (F := Ideal) m ρ)

/-- The value claim: the two runs end with the kernel's result. -/
theorem equal_results [Cert.Pre_samplable.Facts] : Cert.algebraic_KernelIdeal_ReferenceIdeal_pre_samplable := by
  intro m ρ m' ρ' hpre hagree
  refine ⟨fun c => Cert.KernelIdeal.Value.result m c, Cert.KernelIdeal.Value.run m ρ, ?_⟩
  refine (θ_run Cert.ReferenceIdeal.defs _ _).mono (fun _ h c => ?_) (Cert.ReferenceIdeal.Host.run (F := Ideal) m' ρ')
  exact ⟨(h c).1.trans (results_eq m m' hpre c (hagree c).1 (hagree c).2.1 (hagree c).2.2), (h c).2⟩

theorem claim : Cert.Claim :=
  ⟨Cert.Kernel.Gen.facts, Cert.KernelIdeal.Gen.facts, Cert.ReferenceIdeal.Gen.facts, samplable_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    letI := samplable_facts; equal_results⟩

end Cert.Proof

end
